-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S4 : Shape := ⟨1, ![4]⟩
abbrev S_ : Shape := ⟨0, ![]⟩
abbrev S4096x512 : Shape := ⟨2, ![4096, 512]⟩
abbrev S3x1024x512 : Shape := ⟨3, ![3, 1024, 512]⟩
abbrev S3 : Shape := ⟨1, ![3]⟩
abbrev S1024x512 : Shape := ⟨2, ![1024, 512]⟩
abbrev S1x1024x512 : Shape := ⟨3, ![1, 1024, 512]⟩

abbrev nBuf : Space → Nat
  | .hbm => 35
  | .vmem => 7
  | .smem => 3
  | _ => 0

abbrev bufTy : (tb : Table) → Fin (tcTables nBuf tb) → BufTy
  | .hbm, ⟨0, _⟩ => ⟨S1024x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i1⟩
  | .hbm, ⟨24, _⟩ => ⟨S_, .i32⟩
  | .hbm, ⟨25, _⟩ => ⟨S4, .i32⟩
  | .hbm, ⟨26, _⟩ => ⟨S4, .i1⟩
  | .hbm, ⟨27, _⟩ => ⟨S_, .i32⟩
  | .hbm, ⟨28, _⟩ => ⟨S_, .i1⟩
  | .hbm, ⟨29, _⟩ => ⟨S4, .i1⟩
  | .hbm, ⟨30, _⟩ => ⟨S4, .i1⟩
  | .hbm, ⟨31, _⟩ => ⟨S4, .i1⟩
  | .hbm, ⟨32, _⟩ => ⟨S4, .i32⟩
  | .hbm, ⟨33, _⟩ => ⟨S4, .i32⟩
  | .hbm, ⟨34, _⟩ => ⟨S4096x512, .bf16⟩
  | .local _ .vmem, ⟨0, _⟩ => ⟨S1024x4096, .fp8e4m3⟩
  | .local _ .vmem, ⟨1, _⟩ => ⟨S4096x512, .fp8e4m3⟩
  | .local _ .vmem, ⟨2, _⟩ => ⟨S4096x512, .fp8e4m3⟩
  | .local _ .vmem, ⟨3, _⟩ => ⟨S4096x512, .bf16⟩
  | .local _ .vmem, ⟨4, _⟩ => ⟨S1024x4096, .fp8e4m3⟩
  | .local _ .vmem, ⟨5, _⟩ => ⟨S3x1024x512, .i8⟩
  | .local _ .vmem, ⟨6, _⟩ => ⟨S3x1024x512, .i8⟩
  | .local _ .smem, ⟨0, _⟩ => ⟨S4, .i32⟩
  | .local _ .smem, ⟨1, _⟩ => ⟨S1, .f32⟩
  | .local _ .smem, ⟨2, _⟩ => ⟨S1, .f32⟩
  | _, _ => ⟨S1024x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | .smem, ⟨2, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v8 : Ref sig .tc := ⟨.hbm, 34, rfl⟩
abbrev main_v7 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 1, rfl⟩
abbrev cc0_stg3_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 4
abbrev τ : Topo := Topo.v7x

variable {F : FTy → Type} [FloatOps F]

abbrev grid0 : Pipeline.Grid := ⟨1, ![4], ![false]⟩

abbrev pre0 : Pipeline.Prefetch sig := ⟨1, ![main_v7.idx], fun | 0 => main_v7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_2 : BitVec 32 := 0#32
  let v10 : BitVec 1 := Scalar.cmpi .ne v9 c0_i32_2
  v10

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v24 : BitVec 32 := Scalar.addi v2 c1_i32_11
  let c4_i32_12 : BitVec 32 := 4#32
  let v25 : BitVec 32 := Scalar.remsi v24 c4_i32_12
  let c1_i32_14 : BitVec 32 := 1#32
  let v26 : BitVec 32 := Scalar.muli v25 c1_i32_14
  let v27 : BitVec 32 := Scalar.addi c0_i32_15 v26
  v27.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 32 := Scalar.addi v2 c2_i32
  let c4_i32_16 : BitVec 32 := 4#32
  let v29 : BitVec 32 := Scalar.remsi v28 c4_i32_16
  let c1_i32_18 : BitVec 32 := 1#32
  let v30 : BitVec 32 := Scalar.muli v29 c1_i32_18
  let v31 : BitVec 32 := Scalar.addi c0_i32_19 v30
  v31.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_20 : BitVec 32 := 3#32
  let v32 : BitVec 32 := Scalar.addi v2 c3_i32_20
  let c4_i32_21 : BitVec 32 := 4#32
  let v33 : BitVec 32 := Scalar.remsi v32 c4_i32_21
  let c1_i32_23 : BitVec 32 := 1#32
  let v34 : BitVec 32 := Scalar.muli v33 c1_i32_23
  let v35 : BitVec 32 := Scalar.addi c0_i32_24 v34
  v35.toNat
def k0_cond2 (i : grid0.Coords) : BitVec 1 :=
  let arg0 : BitVec 32 := BitVec.ofNat 32 (i 0).val
  let c3_i32 : BitVec 32 := 3#32
  let v17 : BitVec 1 := Scalar.cmpi .slt arg0 c3_i32
  let v18 : BitVec 32 := Scalar.extui v17
  let c0_i32_8 : BitVec 32 := 0#32
  let v19 : BitVec 1 := Scalar.cmpi .ne v18 c0_i32_8
  v19

def k0_off2 (i : grid0.Coords) : Fin 3 → Nat :=
  let arg0 : BitVec 32 := BitVec.ofNat 32 (i 0).val
  let v31 : Index := Scalar.indexCast arg0
  let c0_13 : Index := 0#32
  let c0_14 : Index := 0#32
  ![v31.toNat, 0, 0]
def k0_off3 (i : grid0.Coords) : Fin 1 → Nat :=
  let arg0 : BitVec 32 := BitVec.ofNat 32 (i 0).val
  let v35 : Index := Scalar.indexCast arg0
  ![v35.toNat]
def k0_off4 (i : grid0.Coords) : Fin 1 → Nat :=
  let arg0 : BitVec 32 := BitVec.ofNat 32 (i 0).val
  ![arg0.toNat]
def k0_off5 (i : grid0.Coords) : Fin 3 → Nat :=
  let arg0 : BitVec 32 := BitVec.ofNat 32 (i 0).val
  let c0_i32_17 : BitVec 32 := 0#32
  let c0_i32_18 : BitVec 32 := 0#32
  ![arg0.toNat, 0, 0]
def k0_dev4 (v36 : BitVec 32) : Nat :=
  let c0_i32_16 : BitVec 32 := 0#32
  let c1_i32_15 : BitVec 32 := 1#32
  let v37 : BitVec 32 := Scalar.muli v36 c1_i32_15
  let v38 : BitVec 32 := Scalar.addi c0_i32_16 v37
  v38.toNat

def k0_chk1 (i : grid0.Coords) (v36 : BitVec 32) : Prop :=
  (∀ (k0_h2 : k0_cond2 i = 1#1), (k0_dev4 v36) < nD)
theorem k0_dev4_lt : ∀ (i : grid0.Coords) (v36 : BitVec 32) (k0_hw1 : k0_chk1 i v36), ∀ (k0_h2 : k0_cond2 i = 1#1), (k0_dev4 v36) < nD := fun i v36 k0_hw1 k0_h2 => k0_hw1 k0_h2

def k0_cond3 (i : grid0.Coords) : BitVec 1 :=
  let arg0 : BitVec 32 := BitVec.ofNat 32 (i 0).val
  let c3_i32_9 : BitVec 32 := 3#32
  let v20 : BitVec 1 := Scalar.cmpi .eq arg0 c3_i32_9
  let v21 : BitVec 32 := Scalar.extui v20
  let c0_i32_10 : BitVec 32 := 0#32
  let v22 : BitVec 1 := Scalar.cmpi .ne v21 c0_i32_10
  v22

def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v24 : BitVec 32 := Scalar.muli v2 c1024_i32
  let v25 : Index := Scalar.indexCast v24
  let c0_11 : Index := 0#32
  ![v25.toNat, 0]
def k0_off7 (d0 : Dev nD) (c0_i32_14 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v28 : BitVec 32 := Scalar.subi v2 c1_i32_13
  let v29 : BitVec 32 := Scalar.subi v28 c0_i32_14
  let c4_i32_15 : BitVec 32 := 4#32
  let v30 : BitVec 32 := Scalar.addi v29 c4_i32_15
  let c4_i32_16 : BitVec 32 := 4#32
  let v31 : BitVec 32 := Scalar.remsi v30 c4_i32_16
  let c1024_i32_39 : BitVec 32 := 1024#32
  let v52 : BitVec 32 := Scalar.muli v31 c1024_i32_39
  let v53 : Index := Scalar.indexCast v52
  let c0_40 : Index := 0#32
  ![v53.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .bf16⟩
  | .local _ .vmem, ⟨0, _⟩ => ⟨S4096x4096, .fp8e4m3⟩
  | .local _ .vmem, ⟨1, _⟩ => ⟨S4096x2048, .fp8e4m3⟩
  | .local _ .vmem, ⟨2, _⟩ => ⟨S4096x2048, .bf16⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Table.lean ====
/-
The peer table: device `c`'s four words `(c + 1) % 4, (c + 2) % 4, (c + 3) % 4, c`, which the host code leaves in the
prefetched buffer. Point `t` of the grid works on word `t`: the column block of `w` it multiplies by is the one that
word names, and (at the first three points) the device it sends the coded block to.
-/
module

public import proofs.«01_k».proof.Proof.Gen.KernelIdeal.Regions
public import Idealize.ShloMosaic.Lib.StableHlo.RunRead
public import Idealize.ShloMosaic.Lib.Pipeline.ValueKit.Geometry

@[expose] public section

noncomputable section

namespace Cert.KernelIdeal.Alltoall

open Cert.KernelIdeal Cert.KernelIdeal.Gen
open Idealize.ShloMosaic Idealize.ShloMosaic.TcCoe
open Idealize.SL.Sem

variable {F : FTy → Type} [FloatOps F]

/-- The device (and column block) that word `t` of device `c`'s table names. -/
def peer (c : Dev nD) (t : Fin 4) : Dev nD := ⟨(c.val + 1 + t.val) % 4, Nat.mod_lt _ (by decide)⟩

/-- Device `c`'s table. -/
def words (c : Dev nD) : IVec S4 32 := fun k => BitVec.ofNat 32 (peer c (k 0)).val

variable (m : (ℓ : Loc nD τ sig) → Buf (Elt F) ℓ)

/-- Index `j` of a table. -/
def at4 (j : Fin 4) : S4.Idx := fun | ⟨0, _⟩ => j | ⟨_ + 1, h⟩ => absurd h (by simp)
theorem idx4 (k : S4.Idx) : k = at4 (k 0) := by
  funext a; match a with | ⟨0, _⟩ => rfl

/-- The divisor of the host code's remainder: 4, or 1 were it 0. -/
def div4 : IVec S_ 32 := select (cmpi CmpIPredicate.eq (constantI S_ 32 4#32) (constantI S_ 32 0#32)) (constantI S_ 32 1#32) (constantI S_ 32 4#32)
/-- The host code's dividend on device `c`: `c + [1, 2, 3, 0]`. -/
def shifted (c : Dev nD) : IVec S4 32 :=
  addi (broadcastInDim S4 ![] bcast_S_S4 (Host.remui (Host.divui (constantI S_ 32 (Dev.word c)) (constantI S_ 32 1#32)) (constantI S_ 32 4#32)))
    fun i => lit0 (S4.rowMajor i)
def signedRem (c : Dev nD) : IVec S4 32 := Host.remsi (shifted c) (broadcastInDim S4 ![] bcast_S_S4 div4)

/-- The remainder with the divisor's sign, as the host code spells it, is the table's word. -/
theorem rem_words : ∀ (j : Fin 4) (c : Dev nD),
    select (andi (cmpi CmpIPredicate.ne (cmpi CmpIPredicate.slt (signedRem c) (broadcastInDim S4 ![] bcast_S_S4 (constantI S_ 32 0#32)))
          (broadcastInDim S4 ![] bcast_S_S4 (cmpi CmpIPredicate.slt div4 (constantI S_ 32 0#32))))
        (cmpi CmpIPredicate.ne (signedRem c) (broadcastInDim S4 ![] bcast_S_S4 (constantI S_ 32 0#32))))
      (addi (signedRem c) (broadcastInDim S4 ![] bcast_S_S4 div4)) (signedRem c) (at4 j) = words c (at4 j) := by
  decide +kernel

/-- What the host code computes: `(c + [1, 2, 3, 0]) mod 4`. -/
theorem host_table (c : Dev nD) : V2 m c main_v7 = words c := by
  simp only [V2, V1]
  after_reads_simp
  simp -implicitDefEqProofs only [StableHlo.TRef.toBuf, StableHlo.TRef.ofBuf, cast_cast, cast_eq, id_eq]
  refine funext fun (k : S4.Idx) => ?_
  rw [idx4 k]
  generalize (k 0 : Fin 4) = j
  exact rem_words j c

/-- The prefetched contents. -/
def tab (c : Dev nD) : pre0.Contents (Elt F) := fun | 0 => words c

theorem words_toNat (c : Dev nD) (j : Fin 4) : (words c (at4 j)).toNat = (peer c j).val := by
  show (BitVec.ofNat 32 (peer c j).val).toNat = _
  rw [BitVec.toNat_ofNat]
  exact Nat.mod_eq_of_lt (Nat.lt_trans (peer c j).isLt (by decide))

/-- The one element of a unit rectangle of the table. -/
theorem emb_at4 (off : Fin 1 → Nat) (h : ∀ a, off a + S1.size a ≤ S4.size a) (y : S1.Idx) (j : Fin 4) (hoff : off 0 = j.val) :
    (Rect.unit (s := S4) off S1.size h).emb y = at4 j := by
  funext a
  match a with
  | ⟨0, _⟩ =>
    refine Fin.ext ?_
    have h0 : (y 0).val = 0 := Nat.lt_one_iff.mp (y 0).isLt
    have := ValueKit.rect_emb_unit_val (s := S4) off S1.size h y 0
    rw [h0, hoff] at this
    exact this

/-- The column block of `w` that point `i` multiplies by: block `peer c i`. -/
theorem transform_w (c : Dev nD) (i : grid0.Coords) :
    cc0_transform_1 (F := F) Facts₀.k0_off1_inb Facts₀.numel1_S1 (tab c) i = ![0, (peer c (i 0)).val] := by
  have h := emb_at4 (k0_off1 i) (Facts₀.k0_off1_inb i) (Shape.Idx.first (Facts₀.numel1_S1.symm ▸ Nat.one_pos)) (i 0) (by rw [k0_off1_eq]; rfl)
  have h' : (words c ((Rect.unit (s := S4) (k0_off1 i) S1.size (Facts₀.k0_off1_inb i)).emb (Shape.Idx.first (Facts₀.numel1_S1.symm ▸ Nat.one_pos)))).toNat = (peer c (i 0)).val := by
    rw [h]; exact words_toNat c (i 0)
  exact congrArg (fun n : Nat => ![0, n]) h'

theorem tab_ok (c : Dev nD) : ok0 (F := F) (tab c) := by
  intro i
  have h := transform_w (F := F) c i
  have hlt : (peer c (i 0)).val < 4 := (peer c (i 0)).isLt
  have hb : ∀ a, (cc0_transform_1 (F := F) Facts₀.k0_off1_inb Facts₀.numel1_S1 (tab c) i a + 1) * S4096x512.size a ≤ S4096x2048.size a := by
    rw [h]; intro a
    match a with
    | ⟨0, _⟩ => exact (by omega : (0 + 1) * 4096 ≤ 4096)
    | ⟨1, _⟩ => exact (by omega : ((peer c (i 0)).val + 1) * 512 ≤ 2048)
  exact ⟨hb, .inr (Affine.block_words_dvd (of_decide_eq_true rfl) (by decide))⟩

end Cert.KernelIdeal.Alltoall

end
-- ==== Proof.Sched.lean ====
/-
The exchange. Each device `c` sends slot `j` (`j < 3`) of its staging area to device `tgt c j = (c + 1 + j) % 4`, into slot `j` of
that device's landing area; so the sender of what lands in slot `j` of device `c` is `fr c j = (c + 3 - j) % 4`.

Per device `c`, one round on each cell:
* the barrier cell has three duties of one unit, duty `j` paid by `tgt c j` at its entry; with the unit come slot `j` of that
  device's landing area and that its receive cell `j` is open: what the transfer of slot `j` needs;
* send cell `j` has one duty of the slot's credit, paid by the device's own transfer: the source slot comes back;
* receive cell `j` has one duty of the slot's credit, paid by the transfer of `fr c j`: slot `j` of the landing area comes back
  reading the coded block that `fr c j` sent.
A device owes three barrier units and three receive credits at launch; the barrier is waited for while the receive credits are
owed (receive cells above barrier cells in level), everything else is waited for with nothing owed above it.
-/
module

public import proofs.«01_k».proof.Proof.Table
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Rounds
public import Idealize.ShloMosaic.Lib.ViewIndex
public import Idealize.ShloMosaic.Lib.VecWindow
public import Idealize.ShloMosaic.Lib.Ring.FamCut
public import Idealize.ShloMosaic.Lib.Tactic

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline library's copy and the exchange's, duties `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Who sends to whom -/

/-- Where slot `j` of device `c` goes. -/
def tgt (c : Dev nD) (j : Fin 3) : Dev nD := ⟨(c.val + 1 + j.val) % 4, Nat.mod_lt _ (by decide)⟩
/-- Where what lands in slot `j` of device `c` comes from. -/
def fr (c : Dev nD) (j : Fin 3) : Dev nD := ⟨(c.val + 3 - j.val) % 4, Nat.mod_lt _ (by decide)⟩

theorem fr_tgt (c : Dev nD) (j : Fin 3) : fr (tgt c j) j = c := by revert c j; decide
theorem tgt_fr (c : Dev nD) (j : Fin 3) : tgt (fr c j) j = c := by revert c j; decide
theorem peer_tgt (c : Dev nD) (j : Fin 3) : peer c j.castSucc = tgt c j := rfl
theorem peer_last (c : Dev nD) : peer c 3 = c := by revert c; decide

def rot (j : Fin 3) : Dev nD ≃ Dev nD := ⟨(tgt · j), (fr · j), fun c => fr_tgt c j, fun c => tgt_fr c j⟩

/-! ## Semaphores and cells -/

theorem inb1 (j : Fin 3) : ∀ a, (![j.val] : Fin 1 → ℕ) a + S1.size a ≤ S3.size a := by revert j; decide
theorem inb3 (j : Fin 3) : ∀ a, (![j.val, 0, 0] : Fin 3 → ℕ) a + S1x1024x512.size a ≤ S3x1024x512.size a := by revert j; decide

/-- The barrier semaphore (the runtime's, unscoped), the send and receive semaphores (scoped scratch). -/
abbrev barS : Sem sig := (SemArray.scalar (sig.barrier 0 rfl) : Sems sig S_).sem
def sendS (j : Fin 3) : DmaSem sig := ((cc0_scratch3.slice (Rect.unit (s := S3) ![j.val] S1.size (inb1 j))).squeeze S_ squeezes_S1_S_).sem
def recvS (j : Fin 3) : DmaSem sig := ((cc0_scratch4.slice (Rect.unit (s := S3) ![j.val] S1.size (inb1 j))).squeeze S_ squeezes_S1_S_).sem

abbrev barCell (c : Dev nD) : GSem nD τ sig := ((c : Thread nD τ), .reg barS)
abbrev sendCell (c : Dev nD) (j : Fin 3) : GSem nD τ sig := ((c : Thread nD τ), .dma (sendS j))
abbrev recvCell (c : Dev nD) (j : Fin 3) : GSem nD τ sig := ((c : Thread nD τ), .dma (recvS j))

theorem sendS_val (j : Fin 3) : (sendS j).val = 6 + j.val := by revert j; decide
theorem recvS_val (j : Fin 3) : (recvS j).val = 9 + j.val := by revert j; decide

/-- What a semaphore is to the exchange: a send semaphore (`false`) or a receive semaphore (`true`), with its slot, or neither. -/
def kind (s : SemLoc sig) : Option (Bool × Fin 3) :=
  match s with
  | .reg _ => none
  | .dma q => if q.val < 6 then none else if h : q.val - 6 < 3 then some (false, ⟨q.val - 6, h⟩) else if h : q.val - 9 < 3 then some (true, ⟨q.val - 9, h⟩) else none

theorem kind_bar : kind (.reg barS) = none := rfl
theorem kind_send (j : Fin 3) : kind (.dma (sendS j)) = some (false, j) := by revert j; decide
theorem kind_recv (j : Fin 3) : kind (.dma (recvS j)) = some (true, j) := by revert j; decide
theorem send_ne_bar (j : Fin 3) : (SemLoc.dma (sendS j) : SemLoc sig) ≠ .reg barS := fun h => by cases h
theorem recv_ne_bar (j : Fin 3) : (SemLoc.dma (recvS j) : SemLoc sig) ≠ .reg barS := fun h => by cases h

/-! ## Memrefs -/

abbrev tM : Memref sig .tc .smem S4 .i32 := Memref.whole main_v7
abbrev xM : Memref sig .tc .vmem S1024x4096 .fp8e4m3 := Memref.whole cc0_stg0_0
abbrev aM : Memref sig .tc .smem S1 .f32 := Memref.whole cc0_stg2_0
abbrev bM : Memref sig .tc .smem S1 .f32 := Memref.whole cc0_stg3_0
abbrev oM : Memref sig .tc .vmem S4096x512 .bf16 := Memref.whole cc0_stg4_0
abbrev kM : Memref sig .tc .vmem S1024x4096 .fp8e4m3 := Memref.whole cc0_scratch0
abbrev sM : Memref sig .tc .vmem S3x1024x512 .i8 := Memref.whole cc0_scratch1
abbrev rM : Memref sig .tc .vmem S3x1024x512 .i8 := Memref.whole cc0_scratch2

abbrev rct (j : Fin 3) : Rect S3x1024x512 := Rect.unit (s := S3x1024x512) ![j.val, 0, 0] S1x1024x512.size (inb3 j)
/-- Slot `j` of the staging and of the landing area, as the transfer names it. -/
abbrev slotS (j : Fin 3) : Memref sig .tc .vmem S1024x512 .i8 := (sM.slice (rct j) (fun _ => rfl)).squeeze S1024x512 squeezes_S1x1024x512_S1024x512
abbrev slotR (j : Fin 3) : Memref sig .tc .vmem S1024x512 .i8 := (rM.slice (rct j) (fun _ => rfl)).squeeze S1024x512 squeezes_S1x1024x512_S1024x512

abbrev N : ℕ := (slotR 0).view.dmaCredit
theorem N_pos : 0 < N := View.dmaCredit_pos _ (by decide)

theorem rct_disjoint (i j : Fin 3) (h : i ≠ j) : Disjoint (rct i).set (rct j).set := by
  rw [Finset.disjoint_left]
  intro y h1 h2
  have e1 := Rect.mem_set_unit.mp h1 0
  have e2 := Rect.mem_set_unit.mp h2 0
  have a1 : i.val ≤ (y 0).val ∧ (y 0).val < i.val + 1 := e1
  have a2 : j.val ≤ (y 0).val ∧ (y 0).val < j.val + 1 := e2
  exact h (Fin.ext (by omega))

/-! ## Contents -/

/-- The arguments at the kernel's entry: `x`, the two scales. -/
abbrev xv (c : Dev nD) : Vec F S1024x4096 .fp8e4m3 := V2 m c main_arg0
abbrev sx (c : Dev nD) : Elt F .f32 := (V2 m c main_arg2 : FVec F S1 .f32) (Shape.Idx.first (by decide))
abbrev sw (c : Dev nD) : Elt F .f32 := (V2 m c main_arg3 : FVec F S1 .f32) (Shape.Idx.first (by decide))

/-- Entry `(a, b)` of a column block's place in `w`. -/
def colIdx (p : Dev nD) (y : S4096x512.Idx) : S4096x2048.Idx :=
  fun | ⟨0, _⟩ => ⟨(y 0).val, (y 0).isLt⟩ | ⟨1, _⟩ => ⟨p.val * 512 + (y 1).val, by have := (y 1).isLt; have h : (y 1).val < 512 := this; have := p.isLt; have h' : p.val < 4 := this; show p.val * 512 + (y 1).val < 2048; omega⟩
/-- Column block `p` of `w`. -/
def wv (c p : Dev nD) : Vec F S4096x512 .fp8e4m3 := fun y => (V2 m c main_arg1 : Vec F S4096x2048 .fp8e4m3) (colIdx p y)

/-- The kernel's own copy of `x`. -/
def x8 (c : Dev nD) : Vec F S1024x4096 .fp8e4m3 := k0_pay3 (xv m c)
/-- The product with column block `p`, scaled. -/
def prod (c p : Dev nD) : FVec F S1024x512 .f32 := k0_pay4 (sx m c) (sw m c) (x8 m c) (wv m c p)
/-- The same, coded: what travels. -/
def coded (c p : Dev nD) : Vec F S1x1024x512 .i8 := k0_pay5 (sx m c) (sw m c) (x8 m c) (wv m c p)

/-! ## Points-to facts of the exchange -/

def sAny (c : Dev nD) (j : Fin 3) : sProp 𝕄 :=
  iprop(∃ f : Buf (Elt F) ((c : Thread nD τ).loc cc0_scratch1), ((c : Thread nD τ).loc cc0_scratch1) ↦[(sM.view.slice (rct j)).set]{fullShare} f)
def rAny (c : Dev nD) (j : Fin 3) : sProp 𝕄 :=
  iprop(∃ f : Buf (Elt F) ((c : Thread nD τ).loc cc0_scratch2), ((c : Thread nD τ).loc cc0_scratch2) ↦[(rM.view.slice (rct j)).set]{fullShare} f)

/-- What `tgt c j`'s entry signal hands device `c`: slot `j` of that device's landing area, and that its receive cell `j` is open. -/
def barPay (c : Dev nD) (j : Fin 3) : sProp 𝕄 := iprop(rAny (tgt c j) j ∗ reached ER (recvCell (tgt c j) j) 0)
/-- Slot `j` of the landing area, reading the coded block `fr c j` made for device `c`. -/
def recvPay (c : Dev nD) (j : Fin 3) : sProp 𝕄 :=
  iprop(∃ f : Buf (Elt F) ((c : Thread nD τ).loc cc0_scratch2), ⌜(rM.view.slice (rct j)).read (Elt F) f = coded m (fr c j) c⌝
    ∗ ((c : Thread nD τ).loc cc0_scratch2) ↦[(rM.view.slice (rct j)).set]{fullShare} f)

omit [FloatOps F] in
instance sAny_storable (c : Dev nD) (j) : BI.Storable (upEmb : UEmb _ 𝕄) (sAny (F := F) c j) := by unfold sAny; infer_instance
omit [FloatOps F] in
instance barPay_storable (c : Dev nD) (j) : BI.Storable (upEmb : UEmb _ 𝕄) (barPay (F := F) c j) := by unfold barPay rAny; infer_instance
instance recvPay_storable (c : Dev nD) (j) : BI.Storable (upEmb : UEmb _ 𝕄) (recvPay (F := F) m c j) := by unfold recvPay; infer_instance

/-! ## The schedule -/

abbrev IsBar (g : GSem nD τ sig) : Prop := g.1.2 = .tc ∧ g.2 = .reg barS
abbrev IsXfer (g : GSem nD τ sig) : Prop := g.1.2 = .tc ∧ (kind g.2).isSome = true

def rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    match kind g.2 with
    | none => if g.2 = .reg barS then barPay g.1.1 d else iprop(emp)
    | some (false, j) => sAny g.1.1 j
    | some (true, j) => recvPay m g.1.1 j
  amount_pos g _ _ _ := by
    by_cases h : g.2 = .reg barS
    · rw [if_pos h]; exact Nat.one_pos
    · rw [if_neg h]; exact N_pos

instance rd_payload_storable (g : GSem nD τ sig) (r : ℕ) (d : Fin 3) : BI.Storable (upEmb : UEmb _ 𝕄) ((rd (F := F) m).payload g r d) := by
  show BI.Storable upEmb (match kind g.2 with
    | none => if g.2 = .reg barS then barPay g.1.1 d else iprop(emp)
    | some (false, j) => sAny g.1.1 j
    | some (true, j) => recvPay m g.1.1 j)
  (repeat' split) <;> infer_instance

section Sched
variable (c : Dev nD) (j : Fin 3)

theorem duties_bar : (rd (F := F) m).duties (barCell c) 0 = Finset.univ := by dsimp only [rd]; exact if_pos ⟨rfl, rfl, rfl⟩
theorem duties_send : (rd (F := F) m).duties (sendCell c j) 0 = {0} := by
  dsimp only [rd]; rw [if_neg (fun h => send_ne_bar j h.2.2)]; exact if_pos ⟨rfl, rfl, by rw [kind_send]; rfl⟩
theorem duties_recv : (rd (F := F) m).duties (recvCell c j) 0 = {0} := by
  dsimp only [rd]; rw [if_neg (fun h => recv_ne_bar j h.2.2)]; exact if_pos ⟨rfl, rfl, by rw [kind_recv]; rfl⟩
theorem duties_later (g : GSem nD τ sig) : ∀ r, 1 ≤ r → (rd (F := F) m).duties g r = ∅ :=
  fun r hr => by dsimp only [rd]; rw [if_neg fun h => by omega, if_neg fun h => by omega]

theorem amount_bar (d : Fin 3) : (rd (F := F) m).amount (barCell c) 0 d = 1 := by dsimp only [rd]; exact if_pos rfl
theorem amount_send (d : Fin 3) : (rd (F := F) m).amount (sendCell c j) 0 d = N := by dsimp only [rd]; exact if_neg (send_ne_bar j)
theorem amount_recv (d : Fin 3) : (rd (F := F) m).amount (recvCell c j) 0 d = N := by dsimp only [rd]; exact if_neg (recv_ne_bar j)

theorem expect_bar : (rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell c j) 0 = N := by
  unfold Schedule.expect Schedule.amountOf; rw [duties_send, Finset.sum_singleton, amount_send]
theorem expect_recv : (rd (F := F) m).expect (recvCell c j) 0 = N := by
  unfold Schedule.expect Schedule.amountOf; rw [duties_recv, Finset.sum_singleton, amount_recv]

theorem payload_bar (d : Fin 3) : (rd (F := F) m).payload (barCell c) 0 d = barPay c d := by dsimp only [rd]; rw [kind_bar]; exact if_pos rfl
theorem payload_send (d : Fin 3) : (rd (F := F) m).payload (sendCell c j) 0 d = sAny c j := by dsimp only [rd]; rw [kind_send]
theorem payload_recv (d : Fin 3) : (rd (F := F) m).payload (recvCell c j) 0 d = recvPay m c j := by dsimp only [rd]; rw [kind_recv]

omit [FloatOps F] in
theorem bigSep_fin3 (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]
  rfl

theorem rest_bar : bigSep ((rd (F := F) m).duties (barCell c) 0 \ ∅) (fun d => (rd (F := F) m).payload (barCell c) 0 d)
    = iprop(barPay c 0 ∗ barPay c 1 ∗ barPay c 2) := by
  rw [Finset.sdiff_empty, duties_bar, bigSep_fin3, payload_bar, payload_bar, payload_bar]
theorem rest_send : bigSep ((rd (F := F) m).duties (sendCell c j) 0 \ ∅) (fun d => (rd (F := F) m).payload (sendCell c j) 0 d) = sAny c j := by
  rw [Finset.sdiff_empty, duties_send, bigSep_singleton, payload_send]
theorem rest_recv : bigSep ((rd (F := F) m).duties (recvCell c j) 0 \ ∅) (fun d => (rd (F := F) m).payload (recvCell c j) 0 d) = recvPay m c j := by
  rw [Finset.sdiff_empty, duties_recv, bigSep_singleton, payload_recv]

end Sched

/-! ## What each device owes; the levels -/

/-- The receive credits still to be paid before point `t`. -/
def OR (c : Dev nD) : ℕ → CellTallies nD τ sig Unit
  | 0 => (0 + tallyAt (recvCell (tgt c 2) 2) () N + tallyAt (recvCell (tgt c 1) 1) () N) + tallyAt (recvCell (tgt c 0) 0) () N
  | 1 => 0 + tallyAt (recvCell (tgt c 2) 2) () N + tallyAt (recvCell (tgt c 1) 1) () N
  | 2 => 0 + tallyAt (recvCell (tgt c 2) 2) () N
  | _ + 3 => 0
theorem OR_step (c : Dev nD) (j : Fin 3) : OR c j.val = OR c (j.val + 1) + tallyAt (recvCell (tgt c j) j) () N := by
  match j with
  | ⟨0, _⟩ => rfl
  | ⟨1, _⟩ => rfl
  | ⟨2, _⟩ => rfl

/-- With the barrier units: the first signal pays the last summand. -/
def O1 (c : Dev nD) : CellTallies nD τ sig Unit := OR c 0 + tallyAt (barCell (fr c 0)) () 1
def O2 (c : Dev nD) : CellTallies nD τ sig Unit := O1 c + tallyAt (barCell (fr c 1)) () 1
def O₀ (c : Dev nD) : CellTallies nD τ sig Unit := O2 c + tallyAt (barCell (fr c 2)) () 1

def L (g : GSem nD τ sig) : Finset Unit := if g.1.2 = .tc then {()} else ∅
/-- barrier cells at 1, receive cells at 2, everything else at 0. -/
def lv (g : GSem nD τ sig) (_ : Unit) : ℕ := if g.2 = .reg barS then 1 else match kind g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Fin 3) : lv (recvCell c j) () = 2 := by unfold lv; rw [if_neg (recv_ne_bar j)]; rw [kind_recv]

theorem pos_add {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h
theorem pos_tally {g g' : GSem nD τ sig} {u : Unit} {k : ℕ} (h : 0 < (tallyAt g' () k : CellTallies nD τ sig Unit) g u) : g = g' := by
  rw [tallyAt_apply] at h
  by_contra hn; rw [if_neg (fun h' => hn h'.1)] at h; exact Nat.lt_irrefl 0 h
theorem pos_zero {g : GSem nD τ sig} {u : Unit} (h : 0 < (0 : CellTallies nD τ sig Unit) g u) : False := Nat.lt_irrefl 0 h

theorem OR_0 (c : Dev nD) : OR c 0 = (0 + tallyAt (recvCell (tgt c 2) 2) () N + tallyAt (recvCell (tgt c 1) 1) () N) + tallyAt (recvCell (tgt c 0) 0) () N := rfl
theorem OR_1 (c : Dev nD) : OR c 1 = 0 + tallyAt (recvCell (tgt c 2) 2) () N + tallyAt (recvCell (tgt c 1) 1) () N := rfl
theorem OR_2 (c : Dev nD) : OR c 2 = 0 + tallyAt (recvCell (tgt c 2) 2) () N := rfl
theorem OR_3 (c : Dev nD) (k : ℕ) : OR c (k + 3) = 0 := rfl
theorem OR_pos {c : Dev nD} {t : ℕ} {g : GSem nD τ sig} {u : Unit} (h : 0 < OR c t g u) : ∃ d j, g = recvCell d j := by
  match t, h with
  | 0, h =>
    rw [OR_0] at h
    rcases pos_add h with h | h
    · rcases pos_add h with h | h
      · rcases pos_add h with h | h
        · exact (pos_zero h).elim
        · exact ⟨_, _, pos_tally h⟩
      · exact ⟨_, _, pos_tally h⟩
    · exact ⟨_, _, pos_tally h⟩
  | 1, h =>
    rw [OR_1] at h
    rcases pos_add h with h | h
    · rcases pos_add h with h | h
      · exact (pos_zero h).elim
      · exact ⟨_, _, pos_tally h⟩
    · exact ⟨_, _, pos_tally h⟩
  | 2, h =>
    rw [OR_2] at h
    rcases pos_add h with h | h
    · exact (pos_zero h).elim
    · exact ⟨_, _, pos_tally h⟩
  | k + 3, h => rw [OR_3] at h; exact (pos_zero h).elim

theorem O₀_pos {c : Dev nD} {g : GSem nD τ sig} {u : Unit} (h : 0 < O₀ c g u) : (∃ d j, g = recvCell d j) ∨ ∃ d, g = barCell d := by
  unfold O₀ O2 O1 at h
  rcases pos_add h with h | h
  · rcases pos_add h with h | h
    · rcases pos_add h with h | h
      · exact .inl (OR_pos h)
      · exact .inr ⟨_, pos_tally h⟩
    · exact .inr ⟨_, pos_tally h⟩
  · exact .inr ⟨_, pos_tally h⟩

omit [FloatOps F] in
/-- A staging cell may be waited for whatever of these a device owes. -/
theorem mayWait_stage (c : Dev nD) (q : DmaSem sig) (hq : kind (.dma q) = none) (O : CellTallies nD τ sig Unit)
    (hO : ∀ g u, 0 < O g u → (∃ d j, g = recvCell d j) ∨ ∃ d, g = barCell d) :
    (levAts L lv : sProp 𝕄) ⊢ MayWait (c : Thread nD τ) (.dma q) () O := by
  refine MayOwe.of_cut (L := L) (lev := lv) 0 (fun p hp => by rw [Finset.mem_singleton.mp hp, L_tc]; exact Finset.mem_singleton_self _)
    (fun g u hg => by rcases hO g u hg with ⟨d, j, rfl⟩ | ⟨d, rfl⟩ <;> exact Finset.mem_singleton_self _)
    (fun p hp => by
      rw [Finset.mem_singleton.mp hp]; dsimp only [lv]; rw [if_neg (fun h => by cases h), hq])
    (fun g u hg => by
      rcases hO g u hg with ⟨d, j, rfl⟩ | ⟨d, rfl⟩
      · rw [lv_recv]; decide
      · rw [lv_bar]; decide)

omit [FloatOps F] in
/-- At its barrier wait a device owes receive credits only. -/
theorem mayWait_bar (c : Dev nD) : (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨d, j, rfl⟩ := OR_pos hg; exact Finset.mem_singleton_self _)
    (fun p hp => by rw [Finset.mem_singleton.mp hp]; exact le_of_eq (lv_bar c))
    (fun g u hg => by obtain ⟨d, j, rfl⟩ := OR_pos hg; rw [lv_recv]; decide)

/-! ## The cells allocated at launch; the records every device may consult -/

def scSem : Fin 2 × Fin 3 → SemLoc sig := fun kj => if kj.1 = 0 then .dma (sendS kj.2) else .dma (recvS kj.2)
theorem scSem_inj : Function.Injective scSem := by decide
theorem scSem_ne_bar : ∀ k, scSem k ≠ .reg barS := by decide

def barEmb : Dev nD ↪ GSem nD τ sig := ⟨fun c => barCell c, fun _ _ h => congrArg (fun g : GSem nD τ sig => g.1.1) h⟩
def scEmb : Dev nD × (Fin 2 × Fin 3) ↪ GSem nD τ sig :=
  ⟨fun ck => ((ck.1 : Thread nD τ), scSem ck.2), fun _ _ h =>
    Prod.ext (congrArg (fun g : GSem nD τ sig => g.1.1) h) (scSem_inj (congrArg Prod.snd h))⟩
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact scSem_ne_bar ck.2 (congrArg Prod.snd h)

theorem bar_mem (c : Dev nD) : barCell c ∈ (barCells ∪ scCells : Finset (GSem nD τ sig)) :=
  Finset.mem_union_left _ (Finset.mem_map_of_mem barEmb (Finset.mem_univ c))
theorem send_mem (c : Dev nD) (j : Fin 3) : sendCell c j ∈ (barCells ∪ scCells : Finset (GSem nD τ sig)) :=
  Finset.mem_union_right _ (Finset.mem_map_of_mem scEmb (Finset.mem_univ (c, ((0 : Fin 2), j))))
theorem recv_mem (c : Dev nD) (j : Fin 3) : recvCell c j ∈ (barCells ∪ scCells : Finset (GSem nD τ sig)) :=
  Finset.mem_union_right _ (Finset.mem_map_of_mem scEmb (Finset.mem_univ (c, ((1 : Fin 2), j))))

/-- All the invariants under one map of names; round 0 of every barrier cell reached; the levels. -/
def records (κ : GSem nD τ sig → ℕ) : sProp 𝕄 :=
  iprop((bigSep (barCells ∪ scCells) fun g => cellInv ER (rd m) (κ g) g) ∗ (bigSep barCells fun g => reached ER g 0) ∗ levAts L lv)

instance records_persistent (κ : GSem nD τ sig → ℕ) : BI.Persistent (records m κ) := by unfold records; infer_instance

theorem inv_at (κ : GSem nD τ sig → ℕ) {g : GSem nD τ sig} (hg : g ∈ (barCells ∪ scCells : Finset (GSem nD τ sig))) :
    (bigSep (barCells ∪ scCells) fun g => (cellInv ER (rd m) (κ g) g : sProp 𝕄)) ⊢ cellInv ER (rd m) (κ g) g := bigSep_elim hg
omit [FloatOps F] in
theorem reached_at (c : Dev nD) : (bigSep barCells fun g => (reached ER g 0 : sProp 𝕄)) ⊢ reached ER (barCell c) 0 :=
  bigSep_elim (Finset.mem_map_of_mem barEmb (Finset.mem_univ c))

theorem inv_bar (κ : GSem nD τ sig → ℕ) (c : Dev nD) : records m κ ⊢ cellInv ER (rd m) (κ (barCell c)) (barCell c) := by
  unfold records; iintro ⟨H, -, -⟩; iapply (inv_at m κ (bar_mem c)); iexact H
theorem inv_send (κ : GSem nD τ sig → ℕ) (c : Dev nD) (j : Fin 3) : records m κ ⊢ cellInv ER (rd m) (κ (sendCell c j)) (sendCell c j) := by
  unfold records; iintro ⟨H, -, -⟩; iapply (inv_at m κ (send_mem c j)); iexact H
theorem inv_recv (κ : GSem nD τ sig → ℕ) (c : Dev nD) (j : Fin 3) : records m κ ⊢ cellInv ER (rd m) (κ (recvCell c j)) (recvCell c j) := by
  unfold records; iintro ⟨H, -, -⟩; iapply (inv_at m κ (recv_mem c j)); iexact H
theorem reached_bar (κ : GSem nD τ sig → ℕ) (c : Dev nD) : records m κ ⊢ reached ER (barCell c) 0 := by
  unfold records; iintro ⟨-, H, -⟩; iapply (reached_at (F := F) c); iexact H
theorem lev_of (κ : GSem nD τ sig → ℕ) : records m κ ⊢ levAts L lv := by
  unfold records; iintro ⟨-, -, H⟩; iexact H

theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) (fun h => h) (R := 0 + 1) (duties_later m g)

abbrev 𝒱₀ : Variants := Variants.none

end Cert.KernelIdeal.Alltoall

end
-- ==== Proof.Body.lean ====
/-
The points of the grid, symbolically executed: point 0 signals the other devices, waits for their signals and sends slot 0; points
1 and 2 send slots 1 and 2; point 3 writes the result.
-/
module

public import proofs.«01_k».proof.Proof.Sched

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What a slot's resources are, point by point -/

/-- Before the barrier: positions, tokens and credit. -/
def fresh (c : Dev nD) (j : Fin 3) : sProp 𝕄 :=
  iprop(atPos ER (sendCell c j) 0 ∅ 0 ∗ atPos ER (recvCell c j) 0 ∅ 0 ∗ dutyTok ER (sendCell c j) 0 0 ∗ dutyTok ER (recvCell (tgt c j) j) 0 0
    ∗ cred (tallyAt (recvCell c j) () N) ∗ reached ER (sendCell c j) 0)
/-- Ready to be sent: the staging slot and the destination with it. -/
def ready (c : Dev nD) (j : Fin 3) : sProp 𝕄 := iprop(fresh c j ∗ barPay c j ∗ sAny c j)
/-- Sent. -/
def sent (c : Dev nD) (j : Fin 3) : sProp 𝕄 :=
  iprop(atPos ER (sendCell c j) 0 ∅ 0 ∗ atPos ER (recvCell c j) 0 ∅ 0 ∗ cred (tallyAt (sendCell c j) () N) ∗ cred (tallyAt (recvCell c j) () N))

abbrev pts (c : Dev nD) (b : Ref sig .tc) (X : b.ty.Contents (Elt F)) : sProp 𝕄 := iprop(((c : Thread nD τ).loc b) ↦{fullShare} X)

/-! ## Loads, stores and transfers at an offset equal to a slot's -/

section Wrap

theorem wp_load_s {α : Type} {Q : α → sProp 𝕄} (c : Dev nD) (j : Fin 3) (o : Fin 3 → ℕ) (ho : o = ![j.val, 0, 0]) (io : ∀ a, o a + S1x1024x512.size a ≤ S3x1024x512.size a)
    {hl : (sM : Memref sig .tc .vmem S3x1024x512 .i8).view.LoadsAt (Rect.unit (s := S3x1024x512) o S1x1024x512.size io).toLoadRect}
    {k : Vec F S1x1024x512 .i8 → Prog (TpuEff nD τ sig (Elt F) Λ₀ .tc) α} :
    (sAny c j : sProp 𝕄) ⊢ iprop((∀ v, sAny c j -∗ wp frame (wpE (defs₀ (F := F)) 𝒱₀ (c : Thread nD τ) none) Set.univ (k v) Q)
        -∗ wp frame (wpE (defs₀ (F := F)) 𝒱₀ (c : Thread nD τ) none) Set.univ
            (.op (.load sM (Rect.unit (s := S3x1024x512) o S1x1024x512.size io).toLoadRect hl) k) Q) := by
  subst ho
  unfold sAny
  iintro ⟨%f, H⟩ Hk
  iapply (wp_load_rect 𝒱₀ (c : Thread nD τ) none Set.univ (m := sM) (r := rct j) (Finset.Subset.refl _)) $$ H
  iintro H
  iapply Hk
  iexists f; iexact H

theorem wp_store_s {α : Type} {Q : α → sProp 𝕄} (c : Dev nD) (j : Fin 3) (o : Fin 3 → ℕ) (ho : o = ![j.val, 0, 0]) (io : ∀ a, o a + S1x1024x512.size a ≤ S3x1024x512.size a)
    (w : Vec F S1x1024x512 .i8)
    {hx : ((sM : Memref sig .tc .vmem S3x1024x512 .i8).access (Rect.unit (s := S3x1024x512) o S1x1024x512.size io)).Stores Finset.univ} {hm}
    {k : PUnit → Prog (TpuEff nD τ sig (Elt F) Λ₀ .tc) α} :
    (sAny c j : sProp 𝕄) ⊢ iprop((∀ f : Buf (Elt F) ((c : Thread nD τ).loc cc0_scratch1), ⌜(sM.view.slice (rct j)).read (Elt F) f = w⌝
          -∗ (((c : Thread nD τ).loc cc0_scratch1) ↦[(sM.view.slice (rct j)).set]{fullShare} f)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.store sM (Rect.unit (s := S3x1024x512) o S1x1024x512.size io) w Finset.univ hx hm) k) Q) := by
  subst ho
  unfold sAny
  iintro ⟨%f, H⟩ Hk
  iapply (wp_store 𝒱₀ (c : Thread nD τ) none Set.univ (m := sM) (r := rct j) (Mk := Finset.univ) (S := (sM.view.slice (rct j)).set) (Finset.Subset.refl _)) $$ H
  iintro H
  ispecialize Hk $$ %((sM.access (rct j)).write (Elt F) f w Finset.univ)
  iapply Hk $$ [] [H]
  · ipureintro; exact View.read_write_univ _ _
  · iexact H

theorem set_slot (c : Dev nD) (j : Fin 3) : (slotS j).view.set = (sM.view.slice (rct j)).set := View.set_reshape _ _
theorem set_slotR (c : Dev nD) (j : Fin 3) : (slotR j).view.set = (rM.view.slice (rct j)).set := View.set_reshape _ _

/-- After the transfer of a slot, the landing slot reads what the staging slot read. -/
theorem read_landed (j : Fin 3) (fs : (cc0_scratch1 : Ref sig .tc).ty.Contents (Elt F)) (fd : (cc0_scratch2 : Ref sig .tc).ty.Contents (Elt F)) :
    (rM.view.slice (rct j)).read (Elt F) ((slotR j).view.write (Elt F) fd ((slotS j).view.read (Elt F) fs) Finset.univ)
      = (sM.view.slice (rct j)).read (Elt F) fs := by
  funext y
  obtain ⟨x, rfl⟩ := (Shape.reshapeEquiv (Shape.Squeezes.numel_eq (s := S1x1024x512) (s' := S1024x512) squeezes_S1x1024x512_S1024x512)).surjective y
  exact View.read_write_reshape (v := rM.view.slice (rct j)) _ fd ((slotS j).view.read (Elt F) fs) x

theorem wp_send_slot {α : Type} {Q : α → sProp 𝕄} (κ : GSem nD τ sig → ℕ) (c n : Dev nD) (j : Fin 3) (hn : n = tgt c j)
    (o4 : Fin 1 → ℕ) (h4 : o4 = ![j.val]) (i4 : ∀ a, o4 a + S1.size a ≤ S3.size a)
    (o5 : Fin 3 → ℕ) (h5 : o5 = ![j.val, 0, 0]) (i5 : ∀ a, o5 a + S1x1024x512.size a ≤ S3x1024x512.size a)
    {hsc : ((rM.slice (Rect.unit (s := S3x1024x512) o5 S1x1024x512.size i5) (fun _ => rfl)).squeeze S1024x512 squeezes_S1x1024x512_S1024x512 : Memref sig (Dev.tc n : Thread nD τ).2.kind .vmem S1024x512 .i8).view.ref.isScScratch = false}
    {hsrc} {hdst} {hsem}
    {k : PUnit → Prog (TpuEff nD τ sig (Elt F) Λ₀ .tc) α}
    (fs : Buf (Elt F) ((c : Thread nD τ).loc cc0_scratch1)) (hfs : (sM.view.slice (rct j)).read (Elt F) fs = coded m c (tgt c j)) (W : Waits sig Unit) :
    iprop(records m κ ∗ owes (c : Thread nD τ) (OR c j.val) W ∗ fresh c j ∗ barPay c j
        ∗ (((c : Thread nD τ).loc cc0_scratch1) ↦[(sM.view.slice (rct j)).set]{fullShare} fs))
      ⊢ iprop((owes (c : Thread nD τ) (OR c (j.val + 1)) W -∗ sent c j -∗ wp frame (wpE (defs₀ (F := F)) 𝒱₀ (c : Thread nD τ) none) Set.univ (k ⟨⟩) Q)
        -∗ wp frame (wpE (defs₀ (F := F)) 𝒱₀ (c : Thread nD τ) none) Set.univ
              (.op (.enqueueDma
                ((sM.slice (Rect.unit (s := S3x1024x512) o5 S1x1024x512.size i5) (fun _ => rfl)).squeeze S1024x512 squeezes_S1x1024x512_S1024x512)
                (.remote (Dev.tc n : Thread nD τ)
                  ((rM.slice (Rect.unit (s := S3x1024x512) o5 S1x1024x512.size i5) (fun _ => rfl)).squeeze S1024x512 squeezes_S1x1024x512_S1024x512)
                  (.dma ((cc0_scratch3.slice (Rect.unit (s := S3) o4 S1.size i4)).squeeze S_ squeezes_S1_S_).sem) hsc)
                (.dma ((cc0_scratch4.slice (Rect.unit (s := S3) o4 S1.size i4)).squeeze S_ squeezes_S1_S_).sem) hsrc hdst hsem) k) Q) := by
  subst hn h4 h5
  unfold fresh barPay rAny
  iintro ⟨#HR, HO, ⟨HaS, HaR, HtS, HtR, Hc, #HrS⟩, ⟨⟨%fd, Hd⟩, #HrR⟩, Hs⟩ Hk
  iapply (Rounds.wp_send_pointsTo 𝒱₀ ER (rd m) (c : Thread nD τ) none (c' := (tgt c j : Thread nD τ)) (src := slotS j) (dst := slotR j)
      (sS := .dma (sendS j)) (sem := .dma (recvS j)) (q := fullShare) (fs := fs) (fd := fd)
      (κ₁ := κ (sendCell c j)) (κ₂ := κ (recvCell (tgt c j) j)) (r₁ := 0) (r₂ := 0) (d₁ := 0) (d₂ := 0)
      (by rw [duties_send]; exact Finset.mem_singleton_self _) (by rw [duties_recv]; exact Finset.mem_singleton_self _)
      () () N rfl (amount_send m c j 0) (amount_recv m (tgt c j) j 0) (OR c (j.val + 1)) (OR_step c j) (W := W)
      (by rw [payload_send]; unfold sAny; rw [set_slot c j]; exact exists_intro (Φ := fun f => iprop(((c : Thread nD τ).loc cc0_scratch1) ↦[(sM.view.slice (rct j)).set]{fullShare} f)) fs)
      (by
        rw [payload_recv]; unfold recvPay; rw [set_slotR c j, fr_tgt]
        iintro H
        iexists _
        isplitr
        · ipureintro; exact (read_landed j fs fd).trans hfs
        · iexact H)) $$ [HO HtS HtR Hd Hs]
  · isplitr; · iapply (inv_send m κ c j); iexact HR
    isplitr; · iapply (inv_recv m κ (tgt c j) j); iexact HR
    isplitl [Hs]; · rw [set_slot c j]; iexact Hs
    isplitl [Hd]; · rw [set_slotR c j]; iexact Hd
    isplitl [HO]; · iexact HO
    isplitl [HtS]; · iexact HtS
    isplitr; · iexact HrS
    isplitl [HtR]; · iexact HtR
    iexact HrR
  iintro ⟨HcS, HO⟩
  iapply Hk $$ [HO] [HaS HaR HcS Hc]
  · iexact HO
  · unfold sent
    isplitl [HaS]; · iexact HaS
    isplitl [HaR]; · iexact HaR
    isplitl [HcS]; · iexact HcS
    iexact Hc

end Wrap

end Cert.KernelIdeal.Alltoall

end
-- ==== Proof.Points.lean ====
/-
The points that send.
-/
module

public import proofs.«01_k».proof.Proof.Body

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## What the loads read -/

theorem hz2 : (![0, 0] : Fin 2 → ℕ) = fun _ => 0 := funext fun a => by fin_cases a <;> rfl
theorem hz1 : (![0] : Fin 1 → ℕ) = fun _ => 0 := funext fun a => by fin_cases a; rfl

theorem read_k (f : (cc0_scratch0 : Ref sig .tc).ty.Contents (Elt F)) (h) :
    kM.view.readAt (Elt F) (Rect.unit (s := S1024x4096) ![0, 0] S1024x4096.size h).toLoadRect f = f :=
  Memref.readAt_unit_zero (Elt F) cc0_scratch0 hz2 _ f
theorem read_x (f : (cc0_stg0_0 : Ref sig .tc).ty.Contents (Elt F)) (h) :
    xM.view.readAt (Elt F) (Rect.unit (s := S1024x4096) ![0, 0] S1024x4096.size h).toLoadRect f = f :=
  Memref.readAt_unit_zero (Elt F) cc0_stg0_0 hz2 _ f
theorem write_k (f w : (cc0_scratch0 : Ref sig .tc).ty.Contents (Elt F)) (h) :
    (kM.access (Rect.unit (s := S1024x4096) ![0, 0] S1024x4096.size h) : View sig .tc _ _ _).write (Elt F) f w Finset.univ = w :=
  Memref.write_access_unit_zero_univ (Elt F) cc0_scratch0 hz2 _ f w

theorem wp_load_w {α : Type} {Q : α → sProp 𝕄} (c : Dev nD) (M : Memref sig .tc .vmem S4096x512 .fp8e4m3) (X : Vec F S4096x512 .fp8e4m3)
    (h : ∀ a, (![0, 0] : Fin 2 → ℕ) a + S4096x512.size a ≤ S4096x512.size a)
    {hl : M.view.LoadsAt (Rect.unit (s := S4096x512) ![0, 0] S4096x512.size h).toLoadRect} {k : Vec F S4096x512 .fp8e4m3 → Prog (TpuEff nD τ sig (Elt F) Λ₀ .tc) α} :
    (owns (c : Thread nD τ) M fullShare X : sProp 𝕄) ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ
            (.op (.load M (Rect.unit (s := S4096x512) ![0, 0] S4096x512.size h).toLoadRect hl) k) Q) := by
  unfold owns
  iintro ⟨%f, %hf, H⟩ Hk
  iapply (wp_load 𝒱₀ (c : Thread nD τ) none Set.univ (m := M) (View.setOn_subset_set _ _)) $$ H
  iintro H
  have e : M.view.readAt (Elt F) (Rect.unit (s := S4096x512) ![0, 0] S4096x512.size h).toLoadRect f = X := (View.readAt_full M.view f h).trans hf
  rw [e]
  iapply Hk
  iexists f
  isplitr; · ipureintro; exact hf
  iexact H

theorem idx1 (x y : S1.Idx) : x = y := funext fun a => Fin.ext (by
  have h1 := (x a).isLt; have h2 := (y a).isLt
  have e : S1.size a = 1 := by fin_cases a; rfl
  omega)
theorem read_a (f : (cc0_stg2_0 : Ref sig .tc).ty.Contents (Elt F)) (h) (x) :
    (aM.access (Rect.unit (s := S1) ![0] S1.size h)).read (Elt F) f x = (f : FVec F S1 .f32) (Shape.Idx.first (by decide)) :=
  congrArg (f : FVec F S1 .f32) (idx1 _ _)
theorem read_b (f : (cc0_stg3_0 : Ref sig .tc).ty.Contents (Elt F)) (h) (x) :
    (bM.access (Rect.unit (s := S1) ![0] S1.size h)).read (Elt F) f x = (f : FVec F S1 .f32) (Shape.Idx.first (by decide)) :=
  congrArg (f : FVec F S1 .f32) (idx1 _ _)

/-- The table's word for slot `j`. -/
theorem read_t (c : Dev nD) (j : Fin 3) (o : Fin 1 → ℕ) (ho : o = ![j.val]) (h) (x) :
    (tM.access (Rect.unit (s := S4) o S1.size h)).read (Elt F) (words c) x = words c (at4 j.castSucc) := by
  have e := emb_at4 o h x j.castSucc (by subst ho; rfl)
  exact congrArg (words c) e

theorem dev4_words (c : Dev nD) (j : Fin 3) : k0_dev4 (words c (at4 j.castSucc)) = (tgt c j).val := by
  have h := words_toNat c j.castSucc
  rw [peer_tgt] at h
  rw [← h]
  unfold k0_dev4
  simp [Scalar.addi, Scalar.muli, IntOp.addi, IntOp.muli]

set_option maxHeartbeats 1000000 in
/-- A point that sends without signalling first. -/
theorem sound_mid (κ : GSem nD τ sig → ℕ) (c : Dev nD) (j : Fin 3) (i : grid0.Coords) (hi : (i 0).val = j.val)
    (h1 : ¬ k0_cond1 i = 1#1) (h2 : k0_cond2 i = 1#1) (h3 : ¬ k0_cond3 i = 1#1)
    (M : Memref sig .tc .vmem S4096x512 .fp8e4m3) (hM : M.IsWhole) (W : Waits sig Unit) (Q : PUnit → sProp 𝕄) :
    iprop((records m κ ∗ owes (c : Thread nD τ) (OR c j.val) W ∗ ready c j ∗ pts c main_v7 (words c) ∗ pts c cc0_scratch0 (x8 m c)
        ∗ pts c cc0_stg2_0 (V2 m c main_arg2) ∗ pts c cc0_stg3_0 (V2 m c main_arg3) ∗ owns (c : Thread nD τ) M fullShare (wv m c (tgt c j)))
      ∗ ((owes (c : Thread nD τ) (OR c (j.val + 1)) W ∗ sent c j ∗ pts c main_v7 (words c) ∗ pts c cc0_scratch0 (x8 m c)
        ∗ pts c cc0_stg2_0 (V2 m c main_arg2) ∗ pts c cc0_stg3_0 (V2 m c main_arg3) ∗ owns (c : Thread nD τ) M fullShare (wv m c (tgt c j))) -∗ Q ⟨⟩))
      ⊢ wp frame (wpE (defs₀ (F := F)) 𝒱₀ (c : Thread nD τ) none) Set.univ
          (cc0_body (F := F) i tM (Memref.isWhole_whole _) xM (Memref.isWhole_whole _) M hM aM (Memref.isWhole_whole _) bM (Memref.isWhole_whole _)
            oM (Memref.isWhole_whole _) kM (Memref.isWhole_whole _) sM (Memref.isWhole_whole _) rM (Memref.isWhole_whole _) cc0_scratch3 cc0_scratch4) Q := by
  have o2 : k0_off2 i = ![j.val, 0, 0] := by rw [k0_off2_eq, hi]
  have o3 : k0_off3 i = ![j.val] := by rw [k0_off3_eq, hi]
  have o4 : k0_off4 i = ![j.val] := by rw [k0_off4_eq, hi]
  have o5 : k0_off5 i = ![j.val, 0, 0] := by rw [k0_off5_eq, hi]
  have hchk : k0_chk1 i (words c (at4 j.castSucc)) := fun _ => by rw [dev4_words]; exact (tgt c j).isLt
  simp only [cc0_body_eq_skeleton]; unfold cc0_body_skel
  simp only [dif_neg h1, dif_pos h2, dif_neg h3, smemLoad, smemLoadElt, Prog.lift, Prog.bind_op, Prog.bind_ret, Prog.pure_eq_ret, wp_deviceId]
  unfold ready
  iintro ⟨⟨#HR, HO, ⟨Hf, Hb, Hs⟩, Ht, Hk8, Ha, Hb4, Hw⟩, Hk⟩
  iapply (wp_load_rect 𝒱₀ (c : Thread nD τ) none Set.univ (m := aM) (r := Rect.unit (s := S1) ![0] S1.size Facts₀.inb_S1_S1_0) (S := Finset.univ) (Finset.subset_univ _)) $$ Ha; iintro Ha
  rw [read_a]
  iapply (wp_load_rect 𝒱₀ (c : Thread nD τ) none Set.univ (m := bM) (r := Rect.unit (s := S1) ![0] S1.size Facts₀.inb_S1_S1_0) (S := Finset.univ) (Finset.subset_univ _)) $$ Hb4; iintro Hb4
  rw [read_b]
  iapply (wp_load 𝒱₀ (c : Thread nD τ) none Set.univ (m := kM) (S := Finset.univ) (Finset.subset_univ _)) $$ Hk8; iintro Hk8
  rw [read_k]
  iapply (wp_load_w c M _ _) $$ Hw; iintro Hw
  iapply (wp_load_s c j _ o2 _) $$ Hs; iintro %v0 Hs
  iapply (wp_store_s c j _ o2 _ _) $$ Hs; iintro %fs %hfs Hs
  iapply (wp_load_rect 𝒱₀ (c : Thread nD τ) none Set.univ (m := tM) (r := Rect.unit (s := S4) (k0_off3 i) S1.size (Facts₀.k0_off3_inb i h2)) (S := Finset.univ) (Finset.subset_univ _)) $$ Ht; iintro Ht
  rw [read_t c j _ o3]
  simp only [wp_assume_of _ _ _ _ (d := k0_chk1.dec _ _) hchk]
  iapply (wp_send_slot m κ c _ j (Fin.ext (dev4_words c j)) _ o4 _ _ o5 _ fs hfs W) $$ [HO Hf Hb Hs]
  · isplitr; · iexact HR
    isplitl [HO]; · iexact HO
    isplitl [Hf]; · iexact Hf
    isplitl [Hb]; · iexact Hb
    iexact Hs
  iintro HO Hsent
  rw [wp_ret]; imodintro
  iapply Hk
  isplitl [HO]; · iexact HO
  isplitl [Hsent]; · iexact Hsent
  isplitl [Ht]; · iexact Ht
  isplitl [Hk8]; · iexact Hk8
  isplitl [Ha]; · iexact Ha
  isplitl [Hb4]; · iexact Hb4
  iexact Hw

end Cert.KernelIdeal.Alltoall

end
-- ==== Proof.First.lean ====
/-
The point that enters: signals, the wait for them, the first transfer.
-/
module

public import proofs.«01_k».proof.Proof.Points

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

theorem dev1_eq (c : Dev nD) (h : k0_dev1 c < nD) : (⟨k0_dev1 c, h⟩ : Dev nD) = fr c 2 := by
  apply Fin.ext; show k0_dev1 c = (c.val + 3 - 2) % 4; rw [k0_dev1_eq]; omega
theorem dev2_eq (c : Dev nD) (h : k0_dev2 c < nD) : (⟨k0_dev2 c, h⟩ : Dev nD) = fr c 1 := by
  apply Fin.ext; show k0_dev2 c = (c.val + 3 - 1) % 4; rw [k0_dev2_eq]; omega
theorem dev3_eq (c : Dev nD) (h : k0_dev3 c < nD) : (⟨k0_dev3 c, h⟩ : Dev nD) = fr c 0 := by
  apply Fin.ext; show k0_dev3 c = (c.val + 3 - 0) % 4; rw [k0_dev3_eq]; rfl

/-- The entry signal to `fr c j`: slot `j` of the own landing area goes with it. -/
theorem wp_signal_bar {α : Type} {Q : α → sProp 𝕄} (κ : GSem nD τ sig → ℕ) (c n : Dev nD) (j : Fin 3) (hn : n = fr c j) (w : BitVec 32) (hw : w = 1#32)
    (O Orem : CellTallies nD τ sig Unit) (hO : O = Orem + tallyAt (barCell (fr c j)) () 1) (W : Waits sig Unit)
    {k : PUnit → Prog (TpuEff nD τ sig (Elt F) Λ₀ .tc) α} :
    iprop(records m κ ∗ owes (c : Thread nD τ) O W ∗ dutyTok ER (barCell (fr c j)) 0 j ∗ rAny c j ∗ reached ER (recvCell c j) 0)
      ⊢ iprop((owes (c : Thread nD τ) Orem W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n) barS w.toInt) k) Q) := by
  subst hn hw
  rw [show (1#32).toInt = ((1#32).toNat : Int) from rfl]
  iintro ⟨#HR, HO, Htok, Hr, #Hre⟩ Hk
  iapply (Rounds.wp_signal 𝒱₀ ER (rd m) (c : Thread nD τ) none (dst := (fr c j : Thread nD τ)) (sem := barS) (r := 0) (d := j) (κ := κ (barCell (fr c j)))
      (by rw [duties_bar]; exact Finset.mem_univ _) ((amount_bar m (fr c j) j).trans (by decide)) () Orem hO) $$ [HO Htok Hr]
  · isplitr; · iapply (inv_bar m κ (fr c j)); iexact HR
    isplitl [HO]; · iexact HO
    isplitl [Htok]; · iexact Htok
    isplitl [Hr]
    · rw [payload_bar]; unfold barPay; rw [tgt_fr]
      isplitl [Hr]; · iexact Hr
      iexact Hre
    · iapply (reached_bar m κ (fr c j)); iexact HR
  iexact Hk

set_option maxHeartbeats 2000000 in
/-- The point that signals, waits for the other devices' signals and sends slot 0. -/
theorem sound_first (κ : GSem nD τ sig → ℕ) (c : Dev nD) (i : grid0.Coords) (hi : (i 0).val = 0)
    (h1 : k0_cond1 i = 1#1) (h2 : k0_cond2 i = 1#1) (h3 : ¬ k0_cond3 i = 1#1)
    (M : Memref sig .tc .vmem S4096x512 .fp8e4m3) (hM : M.IsWhole) (W : Waits sig Unit) (Q : PUnit → sProp 𝕄) :
    iprop((records m κ ∗ owes (c : Thread nD τ) (O₀ c) W
        ∗ (atPos ER (barCell c) 0 ∅ 0 ∗ cred (tallyAt (barCell c) () 3))
        ∗ (dutyTok ER (barCell (fr c 0)) 0 0 ∗ rAny c 0 ∗ reached ER (recvCell c 0) 0 ∗ fresh c 0 ∗ sAny c 0)
        ∗ (dutyTok ER (barCell (fr c 1)) 0 1 ∗ rAny c 1 ∗ reached ER (recvCell c 1) 0 ∗ fresh c 1 ∗ sAny c 1)
        ∗ (dutyTok ER (barCell (fr c 2)) 0 2 ∗ rAny c 2 ∗ reached ER (recvCell c 2) 0 ∗ fresh c 2 ∗ sAny c 2)
        ∗ pts c main_v7 (words c) ∗ (∃ f, pts c cc0_scratch0 f) ∗ pts c cc0_stg0_0 (xv m c)
        ∗ pts c cc0_stg2_0 (V2 m c main_arg2) ∗ pts c cc0_stg3_0 (V2 m c main_arg3) ∗ owns (c : Thread nD τ) M fullShare (wv m c (tgt c 0)))
      ∗ ((owes (c : Thread nD τ) (OR c 1) (insert (SemLoc.reg barS, ()) W) ∗ semVal (barCell c) 0 ∗ sent c 0 ∗ ready c 1 ∗ ready c 2
        ∗ pts c main_v7 (words c) ∗ pts c cc0_scratch0 (x8 m c) ∗ pts c cc0_stg0_0 (xv m c)
        ∗ pts c cc0_stg2_0 (V2 m c main_arg2) ∗ pts c cc0_stg3_0 (V2 m c main_arg3) ∗ owns (c : Thread nD τ) M fullShare (wv m c (tgt c 0))) -∗ Q ⟨⟩))
      ⊢ wp frame (wpE (defs₀ (F := F)) 𝒱₀ (c : Thread nD τ) none) Set.univ
          (cc0_body (F := F) i tM (Memref.isWhole_whole _) xM (Memref.isWhole_whole _) M hM aM (Memref.isWhole_whole _) bM (Memref.isWhole_whole _)
            oM (Memref.isWhole_whole _) kM (Memref.isWhole_whole _) sM (Memref.isWhole_whole _) rM (Memref.isWhole_whole _) cc0_scratch3 cc0_scratch4) Q := by
  have o2 : k0_off2 i = ![(0 : Fin 3).val, 0, 0] := by rw [k0_off2_eq, hi]; rfl
  have o3 : k0_off3 i = ![(0 : Fin 3).val] := by rw [k0_off3_eq, hi]; rfl
  have o4 : k0_off4 i = ![(0 : Fin 3).val] := by rw [k0_off4_eq, hi]; rfl
  have o5 : k0_off5 i = ![(0 : Fin 3).val, 0, 0] := by rw [k0_off5_eq, hi]; rfl
  have hchk : k0_chk1 i (words c (at4 (0 : Fin 3).castSucc)) := fun _ => by rw [dev4_words]; exact (tgt c 0).isLt
  simp only [cc0_body_eq_skeleton]; unfold cc0_body_skel
  simp only [dif_pos h1, dif_pos h2, dif_neg h3, semSignalWord, semWaitWord, smemLoad, smemLoadElt, Prog.lift, Prog.bind_op, Prog.bind_ret, Prog.pure_eq_ret, Prog.bind_assoc, wp_deviceId]
  iintro ⟨⟨#HR, HO, ⟨HaB, HcB⟩, ⟨Ht0, Hr0, #He0, Hf0, Hs⟩, ⟨Ht1, Hr1, #He1, Hf1, Hs1⟩, ⟨Ht2, Hr2, #He2, Hf2, Hs2⟩, Ht, ⟨%k0, Hk8⟩, Hx, Ha, Hb4, Hw⟩, Hk⟩
  iapply (wp_load_rect 𝒱₀ (c : Thread nD τ) none Set.univ (m := aM) (r := Rect.unit (s := S1) ![0] S1.size Facts₀.inb_S1_S1_0) (S := Finset.univ) (Finset.subset_univ _)) $$ Ha; iintro Ha
  rw [read_a]
  iapply (wp_load_rect 𝒱₀ (c : Thread nD τ) none Set.univ (m := bM) (r := Rect.unit (s := S1) ![0] S1.size Facts₀.inb_S1_S1_0) (S := Finset.univ) (Finset.subset_univ _)) $$ Hb4; iintro Hb4
  rw [read_b]
  -- the three signals
  iapply (wp_signal_bar m κ c _ 2 (dev1_eq c _) _ rfl (O₀ c) (O2 c) rfl W) $$ [HO Ht2 Hr2]
  · isplitr; · iexact HR
    isplitl [HO]; · iexact HO
    isplitl [Ht2]; · iexact Ht2
    isplitl [Hr2]; · iexact Hr2
    iexact He2
  iintro HO
  iapply (wp_signal_bar m κ c _ 1 (dev2_eq c _) _ rfl (O2 c) (O1 c) rfl W) $$ [HO Ht1 Hr1]
  · isplitr; · iexact HR
    isplitl [HO]; · iexact HO
    isplitl [Ht1]; · iexact Ht1
    isplitl [Hr1]; · iexact Hr1
    iexact He1
  iintro HO
  iapply (wp_signal_bar m κ c _ 0 (dev3_eq c _) _ rfl (O1 c) (OR c 0) rfl W) $$ [HO Ht0 Hr0]
  · isplitr; · iexact HR
    isplitl [HO]; · iexact HO
    isplitl [Ht0]; · iexact Ht0
    isplitl [Hr0]; · iexact Hr0
    iexact He0
  iintro HO
  -- the wait: the three destinations come with it
  iapply (Rounds.wp_wait_rest_token 𝒱₀ ER (rd m) (c : Thread nD τ) none (κ := κ (barCell c))
      (wpE_semWait_eq 𝒱₀ (c : Thread nD τ) none Set.univ) (Set.mem_univ _) () (O := OR c 0) (W := W) (R := 0) (m := 0) (T := ∅)
      (by rw [expect_bar]; decide)) $$ [HcB HO HaB]
  · isplitr; · iapply (inv_bar m κ c); iexact HR
    isplitl [HcB]; · iexact HcB
    isplitl [HO]; · iexact HO
    isplitr; · iapply (mayWait_bar c); iapply (lev_of m κ); iexact HR
    iexact HaB
  iintro ⟨HO, HaB, -, Hpay⟩
  ihave Hp := (Entails.of_eq (rest_bar m c)) $$ Hpay
  icases Hp with ⟨Hp0, Hp1, Hp2⟩
  imod (close m (κ (barCell c)) (barCell c)) $$ [HaB] with HzB
  · isplitr; · iapply (inv_bar m κ c); iexact HR
    iexact HaB
  -- the copy of x
  iapply (wp_load 𝒱₀ (c : Thread nD τ) none Set.univ (m := xM) (S := Finset.univ) (Finset.subset_univ _)) $$ Hx; iintro Hx
  rw [read_x]
  iapply (wp_load 𝒱₀ (c : Thread nD τ) none Set.univ (m := kM) (S := Finset.univ) (Finset.subset_univ _)) $$ Hk8; iintro Hk8
  iapply (wp_store 𝒱₀ (c : Thread nD τ) none Set.univ (m := kM) (r := Rect.unit (s := S1024x4096) ![0, 0] S1024x4096.size Facts₀.inb_S1024x4096_S1024x4096_0_0)
    (Mk := Finset.univ) (S := Finset.univ) (Finset.subset_univ _)) $$ Hk8; iintro Hk8
  rw [write_k, show k0_pay3 (xv m c) = x8 m c from rfl]
  iapply (wp_load 𝒱₀ (c : Thread nD τ) none Set.univ (m := kM) (S := Finset.univ) (Finset.subset_univ _)) $$ Hk8; iintro Hk8
  rw [read_k]
  iapply (wp_load_w c M _ _) $$ Hw; iintro Hw
  iapply (wp_load_s c 0 _ o2 _) $$ Hs; iintro %v0 Hs
  iapply (wp_store_s c 0 _ o2 _ _) $$ Hs; iintro %fs %hfs Hs
  iapply (wp_load_rect 𝒱₀ (c : Thread nD τ) none Set.univ (m := tM) (r := Rect.unit (s := S4) (k0_off3 i) S1.size (Facts₀.k0_off3_inb i h2)) (S := Finset.univ) (Finset.subset_univ _)) $$ Ht; iintro Ht
  rw [read_t c 0 _ o3]
  simp only [wp_assume_of _ _ _ _ (d := k0_chk1.dec _ _) hchk]
  iapply (wp_send_slot m κ c _ 0 (Fin.ext (dev4_words c 0)) _ o4 _ _ o5 _ fs hfs (insert (SemLoc.reg barS, ()) W)) $$ [HO Hf0 Hp0 Hs]
  · isplitr; · iexact HR
    isplitl [HO]; · iexact HO
    isplitl [Hf0]; · iexact Hf0
    isplitl [Hp0]; · iexact Hp0
    iexact Hs
  iintro HO Hsent
  rw [wp_ret]; imodintro
  iapply Hk
  isplitl [HO]; · iexact HO
  isplitl [HzB]; · iexact HzB
  isplitl [Hsent]; · iexact Hsent
  isplitl [Hf1 Hp1 Hs1]
  · unfold ready
    isplitl [Hf1]; · iexact Hf1
    isplitl [Hp1]; · iexact Hp1
    iexact Hs1
  isplitl [Hf2 Hp2 Hs2]
  · unfold ready
    isplitl [Hf2]; · iexact Hf2
    isplitl [Hp2]; · iexact Hp2
    iexact Hs2
  isplitl [Ht]; · iexact Ht
  isplitl [Hk8]; · iexact Hk8
  isplitl [Hx]; · iexact Hx
  isplitl [Ha]; · iexact Ha
  isplitl [Hb4]; · iexact Hb4
  iexact Hw

end Cert.KernelIdeal.Alltoall

end
-- ==== Proof.Last.lean ====
/-
The last point: the result.
-/
module

public import proofs.«01_k».proof.Proof.Points

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The result -/

def lowIdx (y : S4096x512.Idx) : S1024x512.Idx :=
  fun | ⟨0, _⟩ => ⟨(y 0).val % 1024, Nat.mod_lt _ (by decide)⟩ | ⟨1, _⟩ => ⟨(y 1).val, (y 1).isLt⟩
def rowDev (y : S4096x512.Idx) : Dev nD := ⟨(y 0).val / 1024, by have h := (y 0).isLt; have h' : (y 0).val < 4096 := h; show (y 0).val / 1024 < 4; omega⟩

/-- What device `c` decodes of the block device `p` coded for it. -/
def decoded (c p : Dev nD) : FVec F S1024x512 .f32 := k0_pay8 (k0_pay2 (sx m c) (sw m c)) (coded m p c)

/-- Device `c`'s result: its own block as it is, the others decoded. -/
def outAt (c : Dev nD) : (cc0_stg4_0 : Ref sig .tc).ty.Contents (Elt F) :=
  ((fun y => if rowDev y = c then k0_pay7 (prod m c c) (lowIdx y) else k0_pay7 (decoded m c (rowDev y)) (lowIdx y)) : FVec F S4096x512 .bf16)

/-- Row block `p` replaced. -/
def putRow (p : Dev nD) (f : Vec F S4096x512 .bf16) (w : Vec F S1024x512 .bf16) : Vec F S4096x512 .bf16 :=
  fun y => if rowDev y = p then w (lowIdx y) else f y

theorem write_o (p : Dev nD) (o : Fin 2 → ℕ) (ho : o = ![1024 * p.val, 0]) (io : ∀ a, o a + S1024x512.size a ≤ S4096x512.size a)
    (f : (cc0_stg4_0 : Ref sig .tc).ty.Contents (Elt F)) (w : Vec F S1024x512 .bf16) :
    (oM.access (Rect.unit (s := S4096x512) o S1024x512.size io) : View sig .tc _ _ _).write (Elt F) f w Finset.univ = putRow p f w := by
  subst ho
  funext y
  by_cases hy : rowDev y = p
  · have hv : (y 0).val / 1024 = p.val := congrArg Fin.val hy
    have he : (oM.access (Rect.unit (s := S4096x512) ![1024 * p.val, 0] S1024x512.size io) : View sig .tc _ _ _).emb (lowIdx y) = y := by
      funext a
      apply Fin.ext
      have e := ValueKit.rect_emb_unit_val (s := S4096x512) ![1024 * p.val, 0] S1024x512.size io (lowIdx y) a
      refine Eq.trans e ?_
      match a with
      | ⟨0, _⟩ =>
        show 1024 * p.val + (y 0).val % 1024 = (y 0).val
        omega
      | ⟨1, _⟩ =>
        show 0 + (y 1).val = (y 1).val
        omega
    have h := View.write_emb_of_mem (Val := Elt F) (v := (oM.access (Rect.unit (s := S4096x512) ![1024 * p.val, 0] S1024x512.size io) : View sig .tc _ _ _)) f w (Finset.mem_univ (lowIdx y))
    rw [he] at h
    refine h.trans ?_
    unfold putRow
    rw [if_pos hy]; rfl
  · have h := View.write_of_not_mem (Val := Elt F) (v := (oM.access (Rect.unit (s := S4096x512) ![1024 * p.val, 0] S1024x512.size io) : View sig .tc _ _ _)) f w Finset.univ (i := y) (by
      intro hm
      obtain ⟨x, -, hx⟩ := Finset.mem_map.mp hm
      apply hy
      have e := ValueKit.rect_emb_unit_val (s := S4096x512) ![1024 * p.val, 0] S1024x512.size io x 0
      have e1 : (y 0).val = 1024 * p.val + (x 0).val := (congrArg (fun z : S4096x512.Idx => (z 0).val) hx).symm.trans e
      have hx0 : (x 0).val < 1024 := (x 0).isLt
      apply Fin.ext
      show (y 0).val / 1024 = p.val
      omega)
    refine h.trans ?_
    unfold putRow
    rw [if_neg hy]

theorem put_all (c : Dev nD) (f : Vec F S4096x512 .bf16) :
    putRow (fr c 2) (putRow (fr c 1) (putRow (fr c 0) (putRow c f (k0_pay7 (prod m c c))) (k0_pay7 (decoded m c (fr c 0)))) (k0_pay7 (decoded m c (fr c 1)))) (k0_pay7 (decoded m c (fr c 2)))
      = outAt m c := by
  funext y
  unfold putRow outAt
  have hd : ∀ c d : Dev nD, d = c ∨ d = fr c 0 ∨ d = fr c 1 ∨ d = fr c 2 := by decide
  have n0 : ∀ c : Dev nD, fr c 0 ≠ c ∧ fr c 1 ≠ c ∧ fr c 2 ≠ c ∧ fr c 0 ≠ fr c 1 ∧ fr c 0 ≠ fr c 2 ∧ fr c 1 ≠ fr c 2 := by decide
  obtain ⟨a0, a1, a2, a01, a02, a12⟩ := n0 c
  show (if rowDev y = fr c 2 then _ else if rowDev y = fr c 1 then _ else if rowDev y = fr c 0 then _ else if rowDev y = c then _ else _) = (if rowDev y = c then _ else _)
  rcases hd c (rowDev y) with h | h | h | h
  · rw [h, if_neg a2.symm, if_neg a1.symm, if_neg a0.symm, if_pos rfl, if_pos rfl]
  · rw [h, if_neg a02, if_neg a01, if_pos rfl, if_neg a0]
  · rw [h, if_neg a12, if_pos rfl, if_neg a1]
  · rw [h, if_pos rfl, if_neg a2]

theorem off6 (c : Dev nD) : k0_off6 c = ![1024 * c.val, 0] := k0_off6_eq c
theorem off7_0 (c : Dev nD) : k0_off7 c 0#32 = ![1024 * (fr c 0).val, 0] := (k0_off7_eq c 0).trans (by rfl)
theorem off7_1 (c : Dev nD) : k0_off7 c 1#32 = ![1024 * (fr c 1).val, 0] := (k0_off7_eq c 1).trans (by rfl)
theorem off7_2 (c : Dev nD) : k0_off7 c 2#32 = ![1024 * (fr c 2).val, 0] := (k0_off7_eq c 2).trans (by rfl)

/-! ## The waits of a slot and the load of what landed -/

theorem wp_wait_send {α : Type} {Q : α → sProp 𝕄} (κ : GSem nD τ sig → ℕ) (c : Dev nD) (j : Fin 3) (i4 : ∀ a, (![j.val] : Fin 1 → ℕ) a + S1.size a ≤ S3.size a)
    (i5 : ∀ a, (![j.val, 0, 0] : Fin 3 → ℕ) a + S1x1024x512.size a ≤ S3x1024x512.size a) {h1} {h2} (W : Waits sig Unit)
    {k : PUnit → Prog (TpuEff nD τ sig (Elt F) Λ₀ .tc) α} :
    iprop(records m κ ∗ owes (c : Thread nD τ) 0 W ∗ atPos ER (sendCell c j) 0 ∅ 0 ∗ cred (tallyAt (sendCell c j) () N))
      ⊢ iprop((owes (c : Thread nD τ) 0 (insert (SemLoc.dma (sendS j), ()) W) -∗ atPos ER (sendCell c j) (0 + 1) ∅ 0 -∗ sAny c j
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch3.slice (Rect.unit (s := S3) ![j.val] S1.size i4)).squeeze S_ squeezes_S1_S_).sem
              ((rM.slice (Rect.unit (s := S3x1024x512) ![j.val, 0, 0] S1x1024x512.size i5) (fun _ => rfl)).squeeze S1024x512 squeezes_S1x1024x512_S1024x512)
              ((sM.slice (Rect.unit (s := S3x1024x512) ![j.val, 0, 0] S1x1024x512.size i5) (fun _ => rfl)).squeeze S1024x512 squeezes_S1x1024x512_S1024x512) h1 h2) k) Q) := by
  iintro ⟨#HR, HO, Hat, Hc⟩ Hk
  iapply (Rounds.wp_wait_rest_token 𝒱₀ ER (rd m) (c : Thread nD τ) none (κ := κ (sendCell c j))
      (wpE_waitDma2_eq (src := slotR j) (dst := slotS j) 𝒱₀ (c : Thread nD τ) none Set.univ) (Set.mem_univ _) () (O := 0) (W := W) (R := 0) (m := 0) (T := ∅)
      ((Nat.zero_add _).trans (expect_send m c j).symm)) $$ [Hc HO Hat]
  · isplitr; · iapply (inv_send m κ c j); iexact HR
    isplitl [Hc]; · iexact Hc
    isplitl [HO]; · iexact HO
    isplitr; · rw [MayWait_zero]; iempintro
    iexact Hat
  iintro ⟨HO, Hat, -, Hpay⟩
  ihave Hs := (Entails.of_eq (rest_send m c j)) $$ Hpay
  iapply Hk $$ [HO] [Hat] [Hs]
  · iexact HO
  · iexact Hat
  · iexact Hs

theorem wp_wait_recv {α : Type} {Q : α → sProp 𝕄} (κ : GSem nD τ sig → ℕ) (c : Dev nD) (j : Fin 3) (i4 : ∀ a, (![j.val] : Fin 1 → ℕ) a + S1.size a ≤ S3.size a)
    (i5 : ∀ a, (![j.val, 0, 0] : Fin 3 → ℕ) a + S1x1024x512.size a ≤ S3x1024x512.size a) {h1} {h2} (W : Waits sig Unit)
    {k : PUnit → Prog (TpuEff nD τ sig (Elt F) Λ₀ .tc) α} :
    iprop(records m κ ∗ owes (c : Thread nD τ) 0 W ∗ atPos ER (recvCell c j) 0 ∅ 0 ∗ cred (tallyAt (recvCell c j) () N))
      ⊢ iprop((owes (c : Thread nD τ) 0 (insert (SemLoc.dma (recvS j), ()) W) -∗ atPos ER (recvCell c j) (0 + 1) ∅ 0 -∗ recvPay m c j
            -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch4.slice (Rect.unit (s := S3) ![j.val] S1.size i4)).squeeze S_ squeezes_S1_S_).sem
              ((sM.slice (Rect.unit (s := S3x1024x512) ![j.val, 0, 0] S1x1024x512.size i5) (fun _ => rfl)).squeeze S1024x512 squeezes_S1x1024x512_S1024x512)
              ((rM.slice (Rect.unit (s := S3x1024x512) ![j.val, 0, 0] S1x1024x512.size i5) (fun _ => rfl)).squeeze S1024x512 squeezes_S1x1024x512_S1024x512) h1 h2) k) Q) := by
  iintro ⟨#HR, HO, Hat, Hc⟩ Hk
  iapply (Rounds.wp_wait_rest_token 𝒱₀ ER (rd m) (c : Thread nD τ) none (κ := κ (recvCell c j))
      (wpE_waitDma2_eq (src := slotS j) (dst := slotR j) 𝒱₀ (c : Thread nD τ) none Set.univ) (Set.mem_univ _) () (O := 0) (W := W) (R := 0) (m := 0) (T := ∅)
      ((Nat.zero_add _).trans (expect_recv m c j).symm)) $$ [Hc HO Hat]
  · isplitr; · iapply (inv_recv m κ c j); iexact HR
    isplitl [Hc]; · iexact Hc
    isplitl [HO]; · iexact HO
    isplitr; · rw [MayWait_zero]; iempintro
    iexact Hat
  iintro ⟨HO, Hat, -, Hpay⟩
  ihave Hs := (Entails.of_eq (rest_recv m c j)) $$ Hpay
  iapply Hk $$ [HO] [Hat] [Hs]
  · iexact HO
  · iexact Hat
  · iexact Hs

theorem wp_load_r {α : Type} {Q : α → sProp 𝕄} (c : Dev nD) (j : Fin 3) (i5 : ∀ a, (![j.val, 0, 0] : Fin 3 → ℕ) a + S1x1024x512.size a ≤ S3x1024x512.size a)
    {hl : (rM : Memref sig .tc .vmem S3x1024x512 .i8).view.LoadsAt (Rect.unit (s := S3x1024x512) ![j.val, 0, 0] S1x1024x512.size i5).toLoadRect}
    {k : Vec F S1x1024x512 .i8 → Prog (TpuEff nD τ sig (Elt F) Λ₀ .tc) α} :
    (recvPay m c j : sProp 𝕄) ⊢ iprop((rAny c j -∗ wp frame (wpE (defs₀ (F := F)) 𝒱₀ (c : Thread nD τ) none) Set.univ (k (coded m (fr c j) c)) Q)
        -∗ wp frame (wpE (defs₀ (F := F)) 𝒱₀ (c : Thread nD τ) none) Set.univ
            (.op (.load rM (Rect.unit (s := S3x1024x512) ![j.val, 0, 0] S1x1024x512.size i5).toLoadRect hl) k) Q) := by
  unfold recvPay rAny
  iintro ⟨%f, %hf, H⟩ Hk
  iapply (wp_load_rect 𝒱₀ (c : Thread nD τ) none Set.univ (m := rM) (r := rct j) (Finset.Subset.refl _)) $$ H
  iintro H
  have e : (rM.access (rct j)).read (Elt F) f = coded m (fr c j) c := hf
  rw [e]
  iapply Hk
  iexists f; iexact H

set_option maxHeartbeats 4000000 in
/-- The last point: the own block, then slot by slot the waits, the load and the decoded block. -/
theorem sound_last (κ : GSem nD τ sig → ℕ) (c : Dev nD) (i : grid0.Coords)
    (h1 : ¬ k0_cond1 i = 1#1) (h2 : ¬ k0_cond2 i = 1#1) (h3 : k0_cond3 i = 1#1)
    (M : Memref sig .tc .vmem S4096x512 .fp8e4m3) (hM : M.IsWhole) (W : Waits sig Unit) (Q : PUnit → sProp 𝕄) :
    iprop((records m κ ∗ owes (c : Thread nD τ) 0 W ∗ sent c 0 ∗ sent c 1 ∗ sent c 2
        ∗ pts c main_v7 (words c) ∗ pts c cc0_scratch0 (x8 m c)
        ∗ pts c cc0_stg2_0 (V2 m c main_arg2) ∗ pts c cc0_stg3_0 (V2 m c main_arg3) ∗ owns (c : Thread nD τ) M fullShare (wv m c c)
        ∗ (∃ f, pts c cc0_stg4_0 f))
      ∗ (((∃ W', owes (c : Thread nD τ) 0 W') ∗ ((semVal (sendCell c 0) 0 ∗ semVal (recvCell c 0) 0) ∗ (semVal (sendCell c 1) 0 ∗ semVal (recvCell c 1) 0) ∗ (semVal (sendCell c 2) 0 ∗ semVal (recvCell c 2) 0))
        ∗ ((sAny c 0 ∗ rAny c 0) ∗ (sAny c 1 ∗ rAny c 1) ∗ (sAny c 2 ∗ rAny c 2))
        ∗ pts c main_v7 (words c) ∗ pts c cc0_scratch0 (x8 m c)
        ∗ pts c cc0_stg2_0 (V2 m c main_arg2) ∗ pts c cc0_stg3_0 (V2 m c main_arg3) ∗ owns (c : Thread nD τ) M fullShare (wv m c c)
        ∗ pts c cc0_stg4_0 (outAt m c)) -∗ Q ⟨⟩))
      ⊢ wp frame (wpE (defs₀ (F := F)) 𝒱₀ (c : Thread nD τ) none) Set.univ
          (cc0_body (F := F) i tM (Memref.isWhole_whole _) xM (Memref.isWhole_whole _) M hM aM (Memref.isWhole_whole _) bM (Memref.isWhole_whole _)
            oM (Memref.isWhole_whole _) kM (Memref.isWhole_whole _) sM (Memref.isWhole_whole _) rM (Memref.isWhole_whole _) cc0_scratch3 cc0_scratch4) Q := by
  simp only [cc0_body_eq_skeleton]; unfold cc0_body_skel
  simp only [k0_part1_eq_skeleton, k0_part2_eq_skeleton, k0_part3_eq_skeleton, k0_part1_skel, k0_part2_skel, k0_part3_skel]
  simp only [dif_neg h1, dif_neg h2, dif_pos h3, smemLoad, smemLoadElt, Prog.lift, Prog.bind_op, Prog.bind_ret, Prog.pure_eq_ret, Prog.bind_assoc, wp_deviceId]
  unfold sent
  iintro ⟨⟨#HR, HO, ⟨HaS0, HaR0, HcS0, HcR0⟩, ⟨HaS1, HaR1, HcS1, HcR1⟩, ⟨HaS2, HaR2, HcS2, HcR2⟩, Ht, Hk8, Ha, Hb4, Hw, ⟨%fo, Ho⟩⟩, Hk⟩
  iapply (wp_load_rect 𝒱₀ (c : Thread nD τ) none Set.univ (m := aM) (r := Rect.unit (s := S1) ![0] S1.size Facts₀.inb_S1_S1_0) (S := Finset.univ) (Finset.subset_univ _)) $$ Ha; iintro Ha
  rw [read_a]
  iapply (wp_load_rect 𝒱₀ (c : Thread nD τ) none Set.univ (m := bM) (r := Rect.unit (s := S1) ![0] S1.size Facts₀.inb_S1_S1_0) (S := Finset.univ) (Finset.subset_univ _)) $$ Hb4; iintro Hb4
  rw [read_b]
  iapply (wp_load 𝒱₀ (c : Thread nD τ) none Set.univ (m := kM) (S := Finset.univ) (Finset.subset_univ _)) $$ Hk8; iintro Hk8
  rw [read_k]
  iapply (wp_load_w c M _ _) $$ Hw; iintro Hw
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S4096x512) (k0_off6 c) S1024x512.size (Facts₀.k0_off6_inb i c h3)) (Mk := Finset.univ) (S := Finset.univ) (Finset.subset_univ _)) $$ Ho; iintro Ho
  rw [write_o (c) _ (off6 c)]
  iapply (wp_load_rect 𝒱₀ (c : Thread nD τ) none Set.univ (m := tM) (r := Rect.unit (s := S4) ![0] S1.size Facts₀.inb_S4_S1_0) (S := Finset.univ) (Finset.subset_univ _)) $$ Ht; iintro Ht
  iapply (wp_wait_send m κ c 0 _ _ W) $$ [HO HaS0 HcS0]
  · isplitr; · iexact HR
    isplitl [HO]; · iexact HO
    isplitl [HaS0]; · iexact HaS0
    iexact HcS0
  iintro HO HaS0 Hs0
  iapply (wp_wait_recv m κ c 0 _ _ _) $$ [HO HaR0 HcR0]
  · isplitr; · iexact HR
    isplitl [HO]; · iexact HO
    isplitl [HaR0]; · iexact HaR0
    iexact HcR0
  iintro HO HaR0 Hr0
  iapply (wp_load_r m c 0 _) $$ Hr0; iintro Hr0
  imod (close m (κ (sendCell c 0)) (sendCell c 0)) $$ [HaS0] with HzS0
  · isplitr; · iapply (inv_send m κ c 0); iexact HR
    iexact HaS0
  imod (close m (κ (recvCell c 0)) (recvCell c 0)) $$ [HaR0] with HzR0
  · isplitr; · iapply (inv_recv m κ c 0); iexact HR
    iexact HaR0
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S4096x512) (k0_off7 c 0#32) S1024x512.size (Facts₀.k0_off7_inb i c h3 0)) (Mk := Finset.univ) (S := Finset.univ) (Finset.subset_univ _)) $$ Ho; iintro Ho
  rw [write_o (fr c 0) _ (off7_0 c)]
  iapply (wp_load_rect 𝒱₀ (c : Thread nD τ) none Set.univ (m := tM) (r := Rect.unit (s := S4) ![1] S1.size Facts₀.inb_S4_S1_1) (S := Finset.univ) (Finset.subset_univ _)) $$ Ht; iintro Ht
  iapply (wp_wait_send m κ c 1 _ _ _) $$ [HO HaS1 HcS1]
  · isplitr; · iexact HR
    isplitl [HO]; · iexact HO
    isplitl [HaS1]; · iexact HaS1
    iexact HcS1
  iintro HO HaS1 Hs1
  iapply (wp_wait_recv m κ c 1 _ _ _) $$ [HO HaR1 HcR1]
  · isplitr; · iexact HR
    isplitl [HO]; · iexact HO
    isplitl [HaR1]; · iexact HaR1
    iexact HcR1
  iintro HO HaR1 Hr1
  iapply (wp_load_r m c 1 _) $$ Hr1; iintro Hr1
  imod (close m (κ (sendCell c 1)) (sendCell c 1)) $$ [HaS1] with HzS1
  · isplitr; · iapply (inv_send m κ c 1); iexact HR
    iexact HaS1
  imod (close m (κ (recvCell c 1)) (recvCell c 1)) $$ [HaR1] with HzR1
  · isplitr; · iapply (inv_recv m κ c 1); iexact HR
    iexact HaR1
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S4096x512) (k0_off7 c 1#32) S1024x512.size (Facts₀.k0_off7_inb i c h3 1)) (Mk := Finset.univ) (S := Finset.univ) (Finset.subset_univ _)) $$ Ho; iintro Ho
  rw [write_o (fr c 1) _ (off7_1 c)]
  iapply (wp_load_rect 𝒱₀ (c : Thread nD τ) none Set.univ (m := tM) (r := Rect.unit (s := S4) ![2] S1.size Facts₀.inb_S4_S1_2) (S := Finset.univ) (Finset.subset_univ _)) $$ Ht; iintro Ht
  iapply (wp_wait_send m κ c 2 _ _ _) $$ [HO HaS2 HcS2]
  · isplitr; · iexact HR
    isplitl [HO]; · iexact HO
    isplitl [HaS2]; · iexact HaS2
    iexact HcS2
  iintro HO HaS2 Hs2
  iapply (wp_wait_recv m κ c 2 _ _ _) $$ [HO HaR2 HcR2]
  · isplitr; · iexact HR
    isplitl [HO]; · iexact HO
    isplitl [HaR2]; · iexact HaR2
    iexact HcR2
  iintro HO HaR2 Hr2
  iapply (wp_load_r m c 2 _) $$ Hr2; iintro Hr2
  imod (close m (κ (sendCell c 2)) (sendCell c 2)) $$ [HaS2] with HzS2
  · isplitr; · iapply (inv_send m κ c 2); iexact HR
    iexact HaS2
  imod (close m (κ (recvCell c 2)) (recvCell c 2)) $$ [HaR2] with HzR2
  · isplitr; · iapply (inv_recv m κ c 2); iexact HR
    iexact HaR2
  iapply (wp_load 𝒱₀ (c : Thread nD τ) none Set.univ (m := oM) (S := Finset.univ) (Finset.subset_univ _)) $$ Ho; iintro Ho
  iapply (wp_store 𝒱₀ (c : Thread nD τ) none Set.univ (m := oM) (r := Rect.unit (s := S4096x512) (k0_off7 c 2#32) S1024x512.size (Facts₀.k0_off7_inb i c h3 2)) (Mk := Finset.univ) (S := Finset.univ) (Finset.subset_univ _)) $$ Ho; iintro Ho
  rw [write_o (fr c 2) _ (off7_2 c)]
  rw [wp_ret]
  imodintro
  iapply Hk
  isplitl [HO]; · iexists _; iexact HO
  isplitl [HzS0 HzR0 HzS1 HzR1 HzS2 HzR2]
  · isplitl [HzS0 HzR0]
    · isplitl [HzS0] <;> iassumption
    isplitl [HzS1 HzR1]
    · isplitl [HzS1] <;> iassumption
    isplitl [HzS2] <;> iassumption
  isplitl [Hs0 Hr0 Hs1 Hr1 Hs2 Hr2]
  · isplitl [Hs0 Hr0]
    · isplitl [Hs0] <;> iassumption
    isplitl [Hs1 Hr1]
    · isplitl [Hs1] <;> iassumption
    isplitl [Hs2] <;> iassumption
  isplitl [Ht]; · iexact Ht
  isplitl [Hk8]; · iexact Hk8
  isplitl [Ha]; · iexact Ha
  isplitl [Hb4]; · iexact Hb4
  isplitl [Hw]; · iexact Hw
  rw [show k0_pay6 (F := F) = k0_pay7 from rfl, show k0_pay9 (F := F) = k0_pay7 from rfl, show k0_pay11 (F := F) = k0_pay7 from rfl,
    show k0_pay10 (F := F) = k0_pay8 from rfl, show k0_pay12 (F := F) = k0_pay8 from rfl]
  rw [← put_all m c fo]
  iexact Ho

end Cert.KernelIdeal.Alltoall

end
-- ==== Proof.Dats.lean ====
/-
The data of the one pipeline, device by device: what its windows hold, what passes from one grid point to the next, what is owed; and
the body's obligation at each of the four points.
-/
module

public import proofs.«01_k».proof.Proof.First
public import proofs.«01_k».proof.Proof.Last
public import Idealize.ShloMosaic.Lib.Ring.FamCut

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The configuration a device's table picks -/

abbrev adm (c : Dev nD) : (p : Fin 1) → (pcfgs (F := F) p).Adm := fun _ => ⟨tab c, tab_ok c⟩
abbrev cfgc (c : Dev nD) : Cfg sig Λ₀ := Pipeline.pinD (pcfgs (F := F)) adm c 0

theorem N_c (c : Dev nD) : (cfgc (F := F) c).N = 4 := rfl

/-! ## The invariant, point by point -/

abbrev setS (c : Dev nD) (j : Fin 3) : Finset (Idx ((c : Thread nD τ).loc cc0_scratch1)) := (sM.view.slice (rct j)).set
abbrev setR (c : Dev nD) (j : Fin 3) : Finset (Idx ((c : Thread nD τ).loc cc0_scratch2)) := (rM.view.slice (rct j)).set

def rests (c : Dev nD) : sProp 𝕄 :=
  iprop((∃ f : Buf (Elt F) ((c : Thread nD τ).loc cc0_scratch1), ((c : Thread nD τ).loc cc0_scratch1) ↦[Ring.restOf (setS c)]{fullShare} f)
    ∗ ∃ f : Buf (Elt F) ((c : Thread nD τ).loc cc0_scratch2), ((c : Thread nD τ).loc cc0_scratch2) ↦[Ring.restOf (setR c)]{fullShare} f)
/-- A slot before the first point. -/
def opening (c : Dev nD) (j : Fin 3) : sProp 𝕄 :=
  iprop(dutyTok ER (barCell (fr c j)) 0 j ∗ rAny c j ∗ reached ER (recvCell c j) 0 ∗ fresh c j ∗ sAny c j)
def recs : sProp 𝕄 := iprop(∃ κ, records m κ)
/-- The cells of one slot, closed; its two buffers' parts. -/
def shut (c : Dev nD) (j : Fin 3) : sProp 𝕄 := iprop(semVal (sendCell c j) 0 ∗ semVal (recvCell c j) 0)
def room (c : Dev nD) (j : Fin 3) : sProp 𝕄 := iprop(sAny c j ∗ rAny c j)

def base (c : Dev nD) : sProp 𝕄 := iprop(pts c main_v7 (words c) ∗ rests c)
def going (c : Dev nD) : sProp 𝕄 := iprop(recs m ∗ base c ∗ semVal (barCell c) 0 ∗ pts c cc0_scratch0 (x8 m c))

def phi0 (c : Dev nD) : sProp 𝕄 :=
  iprop(recs m ∗ base c ∗ (atPos ER (barCell c) 0 ∅ 0 ∗ cred (tallyAt (barCell c) () 3)) ∗ (opening c 0 ∗ opening c 1 ∗ opening c 2)
    ∗ ∃ f, pts c cc0_scratch0 f)
def phi1 (c : Dev nD) : sProp 𝕄 := iprop(going m c ∗ sent c 0 ∗ ready c 1 ∗ ready c 2)
def phi2 (c : Dev nD) : sProp 𝕄 := iprop(going m c ∗ sent c 0 ∗ sent c 1 ∗ ready c 2)
def phi3 (c : Dev nD) : sProp 𝕄 := iprop(going m c ∗ sent c 0 ∗ sent c 1 ∗ sent c 2)
def phi4 (c : Dev nD) : sProp 𝕄 :=
  iprop(base c ∗ semVal (barCell c) 0 ∗ (∃ f, pts c cc0_scratch0 f) ∗ (shut c 0 ∗ shut c 1 ∗ shut c 2) ∗ (room c 0 ∗ room c 1 ∗ room c 2))
def phi (c : Dev nD) : ℕ → sProp 𝕄
  | 0 => phi0 m c
  | 1 => phi1 m c
  | 2 => phi2 m c
  | 3 => phi3 m c
  | _ => phi4 c

def due (c : Dev nD) : ℕ → CellTallies nD τ sig Unit
  | 0 => O₀ c
  | k + 1 => OR c (k + 1)

def dat (c : Dev nD) : Dat τ (Elt F) Unit ℕ UU ℕ (cfgc (F := F) c) c where
  A w := V2 m c (Proc.devRef .tc (Pipeline.arrRef (pcfgs (F := F) 0).spec w))
  after w t := match w with
    | ⟨0, _⟩ => xv m c
    | ⟨1, _⟩ => wv m c (peer c (grid0.coords t 0))
    | ⟨2, _⟩ => V2 m c main_arg2
    | ⟨3, _⟩ => V2 m c main_arg3
    | ⟨4, _⟩ => outAt m c
    | ⟨_ + 5, h⟩ => absurd h (Nat.not_lt.2 (Nat.le_add_left _ _))
  Φ t := phi m c t.val
  q w := fullShare
  owed t := due c t.val

def dats (p : Fin 1) (c : Dev nD) : Dat τ (Elt F) Unit ℕ UU ℕ (Pipeline.pinD (pcfgs (F := F)) adm c p) c := match p with | 0 => dat m c

/-! ## The blocks the pipeline hands the body -/

theorem blk_x (c : Dev nD) (t : Fin (cfgc (F := F) c).N) : (dat m c).blockOf (0 : Fin 5) t = xv m c := by
  funext y
  show V2 m c main_arg0 _ = V2 m c main_arg0 y
  congr 1
  funext a
  match a with
  | ⟨0, _⟩ => exact Fin.ext (show 0 * 1024 + 1 * (y 0).val = (y 0).val by omega)
  | ⟨1, _⟩ => exact Fin.ext (show 0 * 4096 + 1 * (y 1).val = (y 1).val by omega)

theorem blk_w (c : Dev nD) (t : Fin (cfgc (F := F) c).N) : (dat m c).blockOf (1 : Fin 5) t = wv m c (peer c (grid0.coords t 0)) := by
  have h := transform_w (F := F) c (grid0.coords t)
  funext y
  show V2 m c main_arg1 _ = V2 m c main_arg1 (colIdx (peer c (grid0.coords t 0)) y)
  congr 1
  funext a
  match a with
  | ⟨0, _⟩ =>
    refine Fin.ext ?_
    show cc0_transform_1 (F := F) Facts₀.k0_off1_inb Facts₀.numel1_S1 (tab c) (grid0.coords t) 0 * 4096 + 1 * (y 0).val = (y 0).val
    rw [h]; show 0 * 4096 + 1 * (y 0).val = (y 0).val; omega
  | ⟨1, _⟩ =>
    refine Fin.ext ?_
    show cc0_transform_1 (F := F) Facts₀.k0_off1_inb Facts₀.numel1_S1 (tab c) (grid0.coords t) 1 * 512 + 1 * (y 1).val = (peer c (grid0.coords t 0)).val * 512 + (y 1).val
    rw [h]; show (peer c (grid0.coords t 0)).val * 512 + 1 * (y 1).val = _; omega

theorem blk_a (c : Dev nD) (t : Fin (cfgc (F := F) c).N) : (dat m c).blockOf (2 : Fin 5) t = V2 m c main_arg2 := by
  funext y
  show V2 m c main_arg2 _ = V2 m c main_arg2 y
  congr 1
  funext a
  match a with
  | ⟨0, _⟩ => exact Fin.ext (show 0 * 1 + 1 * (y 0).val = (y 0).val by omega)

theorem blk_b (c : Dev nD) (t : Fin (cfgc (F := F) c).N) : (dat m c).blockOf (3 : Fin 5) t = V2 m c main_arg3 := by
  funext y
  show V2 m c main_arg3 _ = V2 m c main_arg3 y
  congr 1
  funext a
  match a with
  | ⟨0, _⟩ => exact Fin.ext (show 0 * 1 + 1 * (y 0).val = (y 0).val by omega)

theorem before_x (c : Dev nD) (t d) : (dat m c).before (0 : Fin 5) t d = xv m c := by
  rw [Dat.before_in_eq_fetched (dat m c) (0 : Fin 5) rfl (fun _ => rfl) (fun _ _ _ => rfl) (fun t => (blk_x m c t).symm) t d]
  exact blk_x m c t
theorem before_w (c : Dev nD) (t d) : (dat m c).before (1 : Fin 5) t d = wv m c (peer c (grid0.coords t 0)) := by
  rw [Dat.before_in_eq_fetched (dat m c) (1 : Fin 5) rfl (fun _ => rfl) (fun _ _ _ => rfl) (fun t => (blk_w m c t).symm) t d]
  exact blk_w m c t
theorem before_a (c : Dev nD) (t d) : (dat m c).before (2 : Fin 5) t d = V2 m c main_arg2 := by
  rw [Dat.before_in_eq_fetched (dat m c) (2 : Fin 5) rfl (fun _ => rfl) (fun _ _ _ => rfl) (fun t => (blk_a m c t).symm) t d]
  exact blk_a m c t
theorem before_b (c : Dev nD) (t d) : (dat m c).before (3 : Fin 5) t d = V2 m c main_arg3 := by
  rw [Dat.before_in_eq_fetched (dat m c) (3 : Fin 5) rfl (fun _ => rfl) (fun _ _ _ => rfl) (fun t => (blk_b m c t).symm) t d]
  exact blk_b m c t

/-! ## The staging buffers a point uses -/

def sl (c : Dev nD) (k : Fin 2) : (w : Fin (cfgc (F := F) c).W) → Fin ((cfgc (F := F) c).win w).nbuf := fun w => match w with
  | ⟨0, _⟩ => (0 : Fin 1)
  | ⟨1, _⟩ => k
  | ⟨2, _⟩ => (0 : Fin 1)
  | ⟨3, _⟩ => (0 : Fin 1)
  | ⟨4, _⟩ => (0 : Fin 1)
  | ⟨_ + 5, h⟩ => absurd h (Nat.not_lt.2 (Nat.le_add_left _ _))

theorem slots_eq (c : Dev nD) (t : Fin (cfgc (F := F) c).N) : ∃ k, (cfgc (F := F) c).slots t = sl c k :=
  ⟨(cfgc (F := F) c).slots t (1 : Fin 5), funext fun w => match w with
  | ⟨0, _⟩ => Subsingleton.elim (α := Fin 1) _ _
  | ⟨1, _⟩ => rfl
  | ⟨2, _⟩ => Subsingleton.elim (α := Fin 1) _ _
  | ⟨3, _⟩ => Subsingleton.elim (α := Fin 1) _ _
  | ⟨4, _⟩ => Subsingleton.elim (α := Fin 1) _ _
  | ⟨_ + 5, h⟩ => absurd h (Nat.not_lt.2 (Nat.le_add_left _ _))⟩

/-! ## The body, point by point -/

theorem idle_0 : idle0 4 (grid0.coords t0_0) = true := by decide +kernel
theorem idle_1 : idle0 4 (grid0.coords t0_1) = true := by decide +kernel
theorem idle_2 : idle0 4 (grid0.coords t0_2) = true := by decide +kernel
theorem idle_3 : idle0 4 (grid0.coords t0_3) = false := by decide +kernel
theorem idle_c (c : Dev nD) : (cfgc (F := F) c).idle (4 : Fin 5) = idle0 4 := rfl
theorem grid_c (c : Dev nD) : (cfgc (F := F) c).grid = grid0 := rfl
theorem coords_c (c : Dev nD) (t : Fin grid0.N) : (cfgc (F := F) c).grid.coords t = grid0.coords t := rfl
theorem idle_c0 (c : Dev nD) : (cfgc (F := F) c).idle (4 : Fin 5) ((cfgc (F := F) c).grid.coords t0_0) = true := by
  rw [idle_c]; exact (congrArg (idle0 4) (coords_c (F := F) c t0_0)).trans idle_0
theorem idle_c1 (c : Dev nD) : (cfgc (F := F) c).idle (4 : Fin 5) ((cfgc (F := F) c).grid.coords t0_1) = true := by
  rw [idle_c]; exact (congrArg (idle0 4) (coords_c (F := F) c t0_1)).trans idle_1
theorem idle_c2 (c : Dev nD) : (cfgc (F := F) c).idle (4 : Fin 5) ((cfgc (F := F) c).grid.coords t0_2) = true := by
  rw [idle_c]; exact (congrArg (idle0 4) (coords_c (F := F) c t0_2)).trans idle_2
theorem idle_c3 (c : Dev nD) : (cfgc (F := F) c).idle (4 : Fin 5) ((cfgc (F := F) c).grid.coords t0_3) = false := by
  rw [idle_c]; exact (congrArg (idle0 4) (coords_c (F := F) c t0_3)).trans idle_3
theorem flush_0 (c : Dev nD) : ((cfgc (F := F) c).win (4 : Fin 5)).flush t0_0 = false := rfl
theorem flush_1 (c : Dev nD) : ((cfgc (F := F) c).win (4 : Fin 5)).flush t0_1 = false := rfl
theorem flush_2 (c : Dev nD) : ((cfgc (F := F) c).win (4 : Fin 5)).flush t0_2 = false := rfl

theorem in_x (c : Dev nD) (k : Fin 2) (t : Fin (cfgc (F := F) c).N) : iprop(∃ d, owns (c : Thread nD τ) (((cfgc (F := F) c).win (0 : Fin 5)).stage (sl c k (0 : Fin 5))) fullShare ((dat m c).before (0 : Fin 5) t d)) ⊢ (pts c cc0_stg0_0 (xv m c) : sProp 𝕄) := by
  iintro ⟨%d, H⟩
  rw [before_x]
  iapply (Entails.of_eq (owns_whole (c : Thread nD τ) cc0_stg0_0 fullShare (xv m c))); iexact H
theorem out_x (c : Dev nD) (k : Fin 2) (t : Fin (cfgc (F := F) c).N) : (pts c cc0_stg0_0 (xv m c) : sProp 𝕄) ⊢ (owns (c : Thread nD τ) (((cfgc (F := F) c).win (0 : Fin 5)).stage (sl c k (0 : Fin 5))) fullShare ((dat m c).after (0 : Fin 5) t) : sProp 𝕄) := by
  exact Entails.of_eq (owns_whole (c : Thread nD τ) cc0_stg0_0 fullShare (xv m c)).symm
theorem in_w (c : Dev nD) (k : Fin 2) (t : Fin (cfgc (F := F) c).N) : iprop(∃ d, owns (c : Thread nD τ) (((cfgc (F := F) c).win (1 : Fin 5)).stage (sl c k (1 : Fin 5))) fullShare ((dat m c).before (1 : Fin 5) t d)) ⊢ (owns (c : Thread nD τ) (stage0_1 k) fullShare (wv m c (peer c (grid0.coords t 0))) : sProp 𝕄) := by
  iintro ⟨%d, H⟩
  rw [before_w]
  iexact H
theorem out_w (c : Dev nD) (k : Fin 2) (t : Fin (cfgc (F := F) c).N) : (owns (c : Thread nD τ) (stage0_1 k) fullShare (wv m c (peer c (grid0.coords t 0))) : sProp 𝕄) ⊢ (owns (c : Thread nD τ) (((cfgc (F := F) c).win (1 : Fin 5)).stage (sl c k (1 : Fin 5))) fullShare ((dat m c).after (1 : Fin 5) t) : sProp 𝕄) := by
  exact .rfl
theorem in_a (c : Dev nD) (k : Fin 2) (t : Fin (cfgc (F := F) c).N) : iprop(∃ d, owns (c : Thread nD τ) (((cfgc (F := F) c).win (2 : Fin 5)).stage (sl c k (2 : Fin 5))) fullShare ((dat m c).before (2 : Fin 5) t d)) ⊢ (pts c cc0_stg2_0 (V2 m c main_arg2) : sProp 𝕄) := by
  iintro ⟨%d, H⟩
  rw [before_a]
  iapply (Entails.of_eq (owns_whole (c : Thread nD τ) cc0_stg2_0 fullShare (V2 m c main_arg2))); iexact H
theorem out_a (c : Dev nD) (k : Fin 2) (t : Fin (cfgc (F := F) c).N) : (pts c cc0_stg2_0 (V2 m c main_arg2) : sProp 𝕄) ⊢ (owns (c : Thread nD τ) (((cfgc (F := F) c).win (2 : Fin 5)).stage (sl c k (2 : Fin 5))) fullShare ((dat m c).after (2 : Fin 5) t) : sProp 𝕄) := by
  exact Entails.of_eq (owns_whole (c : Thread nD τ) cc0_stg2_0 fullShare (V2 m c main_arg2)).symm
theorem in_b (c : Dev nD) (k : Fin 2) (t : Fin (cfgc (F := F) c).N) : iprop(∃ d, owns (c : Thread nD τ) (((cfgc (F := F) c).win (3 : Fin 5)).stage (sl c k (3 : Fin 5))) fullShare ((dat m c).before (3 : Fin 5) t d)) ⊢ (pts c cc0_stg3_0 (V2 m c main_arg3) : sProp 𝕄) := by
  iintro ⟨%d, H⟩
  rw [before_b]
  iapply (Entails.of_eq (owns_whole (c : Thread nD τ) cc0_stg3_0 fullShare (V2 m c main_arg3))); iexact H
theorem out_b (c : Dev nD) (k : Fin 2) (t : Fin (cfgc (F := F) c).N) : (pts c cc0_stg3_0 (V2 m c main_arg3) : sProp 𝕄) ⊢ (owns (c : Thread nD τ) (((cfgc (F := F) c).win (3 : Fin 5)).stage (sl c k (3 : Fin 5))) fullShare ((dat m c).after (3 : Fin 5) t) : sProp 𝕄) := by
  exact Entails.of_eq (owns_whole (c : Thread nD τ) cc0_stg3_0 fullShare (V2 m c main_arg3)).symm
theorem in_o (c : Dev nD) (k : Fin 2) (t : Fin (cfgc (F := F) c).N) :
    iprop(∃ d, owns (c : Thread nD τ) (((cfgc (F := F) c).win (4 : Fin 5)).stage (sl c k (4 : Fin 5))) fullShare ((dat m c).before (4 : Fin 5) t d)) ⊢ (iprop(∃ f, pts c cc0_stg4_0 f) : sProp 𝕄) := by
  iintro ⟨%d, H⟩
  iexists ((dat m c).before (4 : Fin 5) t d)
  iapply (Entails.of_eq (owns_whole (c : Thread nD τ) cc0_stg4_0 fullShare ((dat m c).before (4 : Fin 5) t d))); iexact H
theorem out_o (c : Dev nD) (k : Fin 2) (t : Fin (cfgc (F := F) c).N) : (pts c cc0_stg4_0 (outAt m c) : sProp 𝕄)
    ⊢ (owns (c : Thread nD τ) (((cfgc (F := F) c).win (4 : Fin 5)).stage (sl c k (4 : Fin 5))) fullShare ((dat m c).after (4 : Fin 5) t) : sProp 𝕄) := by
  exact Entails.of_eq (owns_whole (c : Thread nD τ) cc0_stg4_0 fullShare (outAt m c)).symm

theorem owes_in (c : Dev nD) (t : Fin ((cfgc (F := F) c).N + 1)) : ((dat m c).owesAt () t : sProp 𝕄) ⊢ iprop(∃ W, owes (c : Thread nD τ) (due c t.val) W) := by
  unfold Dat.owesAt Pipeline.owesWithin
  iintro ⟨%W, -, H⟩
  iexists W; iexact H
theorem owes_out (c : Dev nD) (t : Fin ((cfgc (F := F) c).N + 1)) (W : Waits sig Unit) : (owes (c : Thread nD τ) (due c t.val) W : sProp 𝕄) ⊢ (dat m c).owesAt () t := by
  unfold Dat.owesAt Pipeline.owesWithin
  iintro H
  iexists W; isplitr; · ipureintro; exact fun _ _ => Or.inl trivial
  iexact H

theorem stage_whole_w (k : Fin 2) : (stage0_1 k).IsWhole := Facts₀.hstage0_1 k

def Obl (c : Dev nD) (t : Fin (cfgc (F := F) c).N) : Prop :=
  iprop((dat m c).Φ t.castSucc ∗ (dat m c).owesAt () t.castSucc
      ∗ bigSep Finset.univ fun w : Fin 5 => iprop(∃ d, owns (c : Thread nD τ) (((cfgc (F := F) c).win w).stage ((cfgc (F := F) c).slots t w)) fullShare ((dat m c).before w t d)))
    ⊢ wp Idealize.ShloMosaic.frame (wpE (defs₀ (F := F)) 𝒱₀ (c : Thread nD τ) none) Set.univ
        ((defs₀ (F := F)) .tc (cfgc (F := F) c).body ((cfgc (F := F) c).bodyArgs t ((cfgc (F := F) c).slots t))) fun _ =>
        iprop((dat m c).Φ t.succ ∗ (dat m c).owesAt () t.succ
          ∗ bigSep Finset.univ fun w : Fin 5 =>
              match (cfgc (F := F) c).idle w ((cfgc (F := F) c).grid.coords t) with
              | true =>
                match ((cfgc (F := F) c).win w).flush t with
                | false => iprop(∃ d, owns (c : Thread nD τ) (((cfgc (F := F) c).win w).stage ((cfgc (F := F) c).slots t w)) fullShare ((dat m c).before w t d))
                | true => owns (c : Thread nD τ) (((cfgc (F := F) c).win w).stage ((cfgc (F := F) c).slots t w)) fullShare ((dat m c).after w t)
              | false => owns (c : Thread nD τ) (((cfgc (F := F) c).win w).stage ((cfgc (F := F) c).slots t w)) fullShare ((dat m c).after w t))

theorem co_0 : (grid0.coords t0_0 0).val = 0 := by decide +kernel
theorem pt_0 (c : Dev nD) : peer c (grid0.coords t0_0 0) = tgt c 0 := (congrArg (peer c) (Fin.ext co_0 : grid0.coords t0_0 0 = (0 : Fin 4))).trans (peer_tgt c 0)
theorem c1_0 : k0_cond1 (grid0.coords t0_0) = 1#1 := by decide +kernel
theorem c2_0 : k0_cond2 (grid0.coords t0_0) = 1#1 := by decide +kernel
theorem c3_0 : ¬ k0_cond3 (grid0.coords t0_0) = 1#1 := by decide +kernel
theorem co_1 : (grid0.coords t0_1 0).val = 1 := by decide +kernel
theorem pt_1 (c : Dev nD) : peer c (grid0.coords t0_1 0) = tgt c 1 := (congrArg (peer c) (Fin.ext co_1 : grid0.coords t0_1 0 = (1 : Fin 4))).trans (peer_tgt c 1)
theorem c1_1 : ¬ k0_cond1 (grid0.coords t0_1) = 1#1 := by decide +kernel
theorem c2_1 : k0_cond2 (grid0.coords t0_1) = 1#1 := by decide +kernel
theorem c3_1 : ¬ k0_cond3 (grid0.coords t0_1) = 1#1 := by decide +kernel
theorem co_2 : (grid0.coords t0_2 0).val = 2 := by decide +kernel
theorem pt_2 (c : Dev nD) : peer c (grid0.coords t0_2 0) = tgt c 2 := (congrArg (peer c) (Fin.ext co_2 : grid0.coords t0_2 0 = (2 : Fin 4))).trans (peer_tgt c 2)
theorem c1_2 : ¬ k0_cond1 (grid0.coords t0_2) = 1#1 := by decide +kernel
theorem c2_2 : k0_cond2 (grid0.coords t0_2) = 1#1 := by decide +kernel
theorem c3_2 : ¬ k0_cond3 (grid0.coords t0_2) = 1#1 := by decide +kernel
theorem co_3 : (grid0.coords t0_3 0).val = 3 := by decide +kernel
theorem pt_3 (c : Dev nD) : peer c (grid0.coords t0_3 0) = c := (congrArg (peer c) (Fin.ext co_3 : grid0.coords t0_3 0 = (3 : Fin 4))).trans (peer_last c)
theorem c1_3 : ¬ k0_cond1 (grid0.coords t0_3) = 1#1 := by decide +kernel
theorem c2_3 : ¬ k0_cond2 (grid0.coords t0_3) = 1#1 := by decide +kernel
theorem c3_3 : k0_cond3 (grid0.coords t0_3) = 1#1 := by decide +kernel

theorem ob_0 (c : Dev nD) (k : Fin 2) (hk : (cfgc (F := F) c).slots t0_0 = sl c k) : Obl m c t0_0 := by
  unfold Obl
  rw [bigSep_W0, bigSep_W0, hk]
  rw [idle_c0, flush_0]
  dsimp only
  rw [show (dat m c).Φ t0_0.castSucc = phi0 m c from rfl, show (dat m c).Φ t0_0.succ = phi1 m c from rfl]
  unfold phi0 phi1 going recs opening base
  change _ ⊢ wp Idealize.ShloMosaic.frame (wpE (defs₀ (F := F)) 𝒱₀ (c : Thread nD τ) none) Set.univ
    (cc0_body (F := F) (grid0.coords t0_0) tM (Memref.isWhole_whole _) xM (Memref.isWhole_whole _) (stage0_1 k) (stage_whole_w k) aM (Memref.isWhole_whole _) bM (Memref.isWhole_whole _) oM (Memref.isWhole_whole _) kM (Memref.isWhole_whole _) sM (Memref.isWhole_whole _) rM (Memref.isWhole_whole _) cc0_scratch3 cc0_scratch4) _
  iintro ⟨HΦ, HO, H0, H1, H2, H3, H4⟩
  ihave H0 := (in_x m c k t0_0) $$ H0
  ihave H1 := (in_w m c k t0_0) $$ H1
  ihave H2 := (in_a m c k t0_0) $$ H2
  ihave H3 := (in_b m c k t0_0) $$ H3
  ihave HO := (owes_in m c _) $$ HO
  icases HO with ⟨%W, HO⟩
  rw [pt_0 c]
  icases HΦ with ⟨⟨%κ, #HR⟩, Hbase, ⟨HaB, HcB⟩, ⟨G0, G1, G2⟩, Hk⟩
  icases Hbase with ⟨Ht, Hrest⟩
  iapply (sound_first m κ c (grid0.coords t0_0) co_0 c1_0 c2_0 c3_0 (stage0_1 k) (stage_whole_w k) W _)
  isplitl [HO HaB HcB G0 G1 G2 Ht Hk H0 H1 H2 H3]
  · isplitr; · iexact HR
    isplitl [HO]; · iexact HO
    isplitl [HaB HcB]; · isplitl [HaB] <;> iassumption
    isplitl [G0]; · iexact G0
    isplitl [G1]; · iexact G1
    isplitl [G2]; · iexact G2
    isplitl [Ht]; · iexact Ht
    isplitl [Hk]; · iexact Hk
    isplitl [H0]; · iexact H0
    isplitl [H2]; · iexact H2
    isplitl [H3]; · iexact H3
    iexact H1
  iintro ⟨HO, Hbar, G0, G1, G2, Ht, Hk, H0, H2, H3, H1⟩
  isplitl [Hbar G0 G1 G2 Ht Hk Hrest]
  · isplitl [Hbar Ht Hk Hrest]
    · isplitr; · iexists κ; iexact HR
      isplitl [Ht Hrest]; · isplitl [Ht] <;> iassumption
      isplitl [Hbar] <;> iassumption
    isplitl [G0]; · iexact G0
    isplitl [G1] <;> iassumption
  isplitl [HO]; · iapply (owes_out m c _ _); iexact HO
  isplitl [H0]; · iapply (out_x m c k t0_0); iexact H0
  isplitl [H1]; · iapply (out_w m c k t0_0); rw [pt_0 c]; iexact H1
  isplitl [H2]; · iapply (out_a m c k t0_0); iexact H2
  isplitl [H3]; · iapply (out_b m c k t0_0); iexact H3
  iexact H4

theorem ob_1 (c : Dev nD) (k : Fin 2) (hk : (cfgc (F := F) c).slots t0_1 = sl c k) : Obl m c t0_1 := by
  unfold Obl
  rw [bigSep_W0, bigSep_W0, hk]
  rw [idle_c1, flush_1]
  dsimp only
  rw [show (dat m c).Φ t0_1.castSucc = phi1 m c from rfl, show (dat m c).Φ t0_1.succ = phi2 m c from rfl]
  unfold phi1 phi2 going recs base
  change _ ⊢ wp Idealize.ShloMosaic.frame (wpE (defs₀ (F := F)) 𝒱₀ (c : Thread nD τ) none) Set.univ
    (cc0_body (F := F) (grid0.coords t0_1) tM (Memref.isWhole_whole _) xM (Memref.isWhole_whole _) (stage0_1 k) (stage_whole_w k) aM (Memref.isWhole_whole _) bM (Memref.isWhole_whole _) oM (Memref.isWhole_whole _) kM (Memref.isWhole_whole _) sM (Memref.isWhole_whole _) rM (Memref.isWhole_whole _) cc0_scratch3 cc0_scratch4) _
  iintro ⟨HΦ, HO, H0, H1, H2, H3, H4⟩
  ihave H0 := (in_x m c k t0_1) $$ H0
  ihave H1 := (in_w m c k t0_1) $$ H1
  ihave H2 := (in_a m c k t0_1) $$ H2
  ihave H3 := (in_b m c k t0_1) $$ H3
  ihave HO := (owes_in m c _) $$ HO
  icases HO with ⟨%W, HO⟩
  rw [pt_1 c]
  icases HΦ with ⟨⟨⟨%κ, #HR⟩, Hbase, Hbar, Hk⟩, G0, G1, G2⟩
  icases Hbase with ⟨Ht, Hrest⟩
  iapply (sound_mid m κ c 1 (grid0.coords t0_1) co_1 c1_1 c2_1 c3_1 (stage0_1 k) (stage_whole_w k) W _)
  isplitl [HO G1 Ht Hk H1 H2 H3]
  · isplitr; · iexact HR
    isplitl [HO]; · iexact HO
    isplitl [G1]; · iexact G1
    isplitl [Ht]; · iexact Ht
    isplitl [Hk]; · iexact Hk
    isplitl [H2]; · iexact H2
    isplitl [H3]; · iexact H3
    iexact H1
  iintro ⟨HO, G1, Ht, Hk, H2, H3, H1⟩
  isplitl [Hbar G0 G1 G2 Ht Hk Hrest]
  · isplitl [Hbar Ht Hk Hrest]
    · isplitr; · iexists κ; iexact HR
      isplitl [Ht Hrest]; · isplitl [Ht] <;> iassumption
      isplitl [Hbar] <;> iassumption
    isplitl [G0]; · iexact G0
    isplitl [G1] <;> iassumption
  isplitl [HO]; · iapply (owes_out m c _ _); iexact HO
  isplitl [H0]; · iapply (out_x m c k t0_1); iexact H0
  isplitl [H1]; · iapply (out_w m c k t0_1); rw [pt_1 c]; iexact H1
  isplitl [H2]; · iapply (out_a m c k t0_1); iexact H2
  isplitl [H3]; · iapply (out_b m c k t0_1); iexact H3
  iexact H4

theorem ob_2 (c : Dev nD) (k : Fin 2) (hk : (cfgc (F := F) c).slots t0_2 = sl c k) : Obl m c t0_2 := by
  unfold Obl
  rw [bigSep_W0, bigSep_W0, hk]
  rw [idle_c2, flush_2]
  dsimp only
  rw [show (dat m c).Φ t0_2.castSucc = phi2 m c from rfl, show (dat m c).Φ t0_2.succ = phi3 m c from rfl]
  unfold phi2 phi3 going recs base
  change _ ⊢ wp Idealize.ShloMosaic.frame (wpE (defs₀ (F := F)) 𝒱₀ (c : Thread nD τ) none) Set.univ
    (cc0_body (F := F) (grid0.coords t0_2) tM (Memref.isWhole_whole _) xM (Memref.isWhole_whole _) (stage0_1 k) (stage_whole_w k) aM (Memref.isWhole_whole _) bM (Memref.isWhole_whole _) oM (Memref.isWhole_whole _) kM (Memref.isWhole_whole _) sM (Memref.isWhole_whole _) rM (Memref.isWhole_whole _) cc0_scratch3 cc0_scratch4) _
  iintro ⟨HΦ, HO, H0, H1, H2, H3, H4⟩
  ihave H0 := (in_x m c k t0_2) $$ H0
  ihave H1 := (in_w m c k t0_2) $$ H1
  ihave H2 := (in_a m c k t0_2) $$ H2
  ihave H3 := (in_b m c k t0_2) $$ H3
  ihave HO := (owes_in m c _) $$ HO
  icases HO with ⟨%W, HO⟩
  rw [pt_2 c]
  icases HΦ with ⟨⟨⟨%κ, #HR⟩, Hbase, Hbar, Hk⟩, G0, G1, G2⟩
  icases Hbase with ⟨Ht, Hrest⟩
  iapply (sound_mid m κ c 2 (grid0.coords t0_2) co_2 c1_2 c2_2 c3_2 (stage0_1 k) (stage_whole_w k) W _)
  isplitl [HO G2 Ht Hk H1 H2 H3]
  · isplitr; · iexact HR
    isplitl [HO]; · iexact HO
    isplitl [G2]; · iexact G2
    isplitl [Ht]; · iexact Ht
    isplitl [Hk]; · iexact Hk
    isplitl [H2]; · iexact H2
    isplitl [H3]; · iexact H3
    iexact H1
  iintro ⟨HO, G2, Ht, Hk, H2, H3, H1⟩
  isplitl [Hbar G0 G1 G2 Ht Hk Hrest]
  · isplitl [Hbar Ht Hk Hrest]
    · isplitr; · iexists κ; iexact HR
      isplitl [Ht Hrest]; · isplitl [Ht] <;> iassumption
      isplitl [Hbar] <;> iassumption
    isplitl [G0]; · iexact G0
    isplitl [G1] <;> iassumption
  isplitl [HO]; · iapply (owes_out m c _ _); iexact HO
  isplitl [H0]; · iapply (out_x m c k t0_2); iexact H0
  isplitl [H1]; · iapply (out_w m c k t0_2); rw [pt_2 c]; iexact H1
  isplitl [H2]; · iapply (out_a m c k t0_2); iexact H2
  isplitl [H3]; · iapply (out_b m c k t0_2); iexact H3
  iexact H4

theorem ob_3 (c : Dev nD) (k : Fin 2) (hk : (cfgc (F := F) c).slots t0_3 = sl c k) : Obl m c t0_3 := by
  unfold Obl
  rw [bigSep_W0, bigSep_W0, hk]
  rw [idle_c3]
  dsimp only
  rw [show (dat m c).Φ t0_3.castSucc = phi3 m c from rfl, show (dat m c).Φ t0_3.succ = phi4 c from rfl]
  unfold phi3 phi4 going recs shut room base
  change _ ⊢ wp Idealize.ShloMosaic.frame (wpE (defs₀ (F := F)) 𝒱₀ (c : Thread nD τ) none) Set.univ
    (cc0_body (F := F) (grid0.coords t0_3) tM (Memref.isWhole_whole _) xM (Memref.isWhole_whole _) (stage0_1 k) (stage_whole_w k) aM (Memref.isWhole_whole _) bM (Memref.isWhole_whole _) oM (Memref.isWhole_whole _) kM (Memref.isWhole_whole _) sM (Memref.isWhole_whole _) rM (Memref.isWhole_whole _) cc0_scratch3 cc0_scratch4) _
  iintro ⟨HΦ, HO, H0, H1, H2, H3, H4⟩
  ihave H0 := (in_x m c k t0_3) $$ H0
  ihave H1 := (in_w m c k t0_3) $$ H1
  ihave H2 := (in_a m c k t0_3) $$ H2
  ihave H3 := (in_b m c k t0_3) $$ H3
  ihave HO := (owes_in m c _) $$ HO
  icases HO with ⟨%W, HO⟩
  rw [pt_3 c]
  icases HΦ with ⟨⟨⟨%κ, #HR⟩, Hbase, Hbar, Hk⟩, G0, G1, G2⟩
  icases Hbase with ⟨Ht, Hrest⟩
  ihave H4 := (in_o m c k t0_3) $$ H4
  iapply (sound_last m κ c (grid0.coords t0_3) c1_3 c2_3 c3_3 (stage0_1 k) (stage_whole_w k) W _)
  isplitl [HO G0 G1 G2 Ht Hk H1 H2 H3 H4]
  · isplitr; · iexact HR
    isplitl [HO]; · iexact HO
    isplitl [G0]; · iexact G0
    isplitl [G1]; · iexact G1
    isplitl [G2]; · iexact G2
    isplitl [Ht]; · iexact Ht
    isplitl [Hk]; · iexact Hk
    isplitl [H2]; · iexact H2
    isplitl [H3]; · iexact H3
    isplitl [H1]; · iexact H1
    iexact H4
  iintro ⟨HO, Hz, Hroom, Ht, Hk, H2, H3, H1, H4⟩
  isplitl [Hbar Hz Hroom Ht Hk Hrest]
  · isplitl [Ht Hrest]; · isplitl [Ht] <;> iassumption
    isplitl [Hbar]; · iexact Hbar
    isplitl [Hk]; · iexists _; iexact Hk
    isplitl [Hz] <;> iassumption
  isplitl [HO]; · icases HO with ⟨%W', HO⟩; iapply (owes_out m c _ W'); iexact HO
  isplitl [H0]; · iapply (out_x m c k t0_3); iexact H0
  isplitl [H1]; · iapply (out_w m c k t0_3); rw [pt_3 c]; iexact H1
  isplitl [H2]; · iapply (out_a m c k t0_3); iexact H2
  isplitl [H3]; · iapply (out_b m c k t0_3); iexact H3
  iapply (out_o m c k t0_3); iexact H4

theorem ob (c : Dev nD) : BodyObligation (dat m c) (defs₀ (F := F)) 𝒱₀ () Set.univ := by
  intro t
  obtain ⟨k, hk⟩ := slots_eq (F := F) c t
  change Obl m c t
  rcases fin_N0 t with rfl | rfl | rfl | rfl
  · exact ob_0 m c k hk
  · exact ob_1 m c k hk
  · exact ob_2 m c k hk
  · exact ob_3 m c k hk

end Cert.KernelIdeal.Alltoall

end
-- ==== Proof.Region.lean ====
/-
The kernel region as a segment of the program: from the host stretches' last state, with the exchange's ghost state beside it, to the
windows' arrays as the pipeline leaves them.
-/
module

public import proofs.«01_k».proof.Proof.Dats
public import Idealize.ShloMosaic.Lib.Pipeline.Regions

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Ghost state a device brings to the region -/

/-- A slot's tokens and credit before its cells are opened. -/
def held3 (c : Dev nD) (j : Fin 3) : sProp 𝕄 :=
  iprop((openTok ER (sendCell c j) ∗ openTok ER (recvCell c j)) ∗ dutyTok ER (barCell (fr c j)) 0 j ∗ dutyTok ER (sendCell c j) 0 0
    ∗ dutyTok ER (recvCell (tgt c j) j) 0 0 ∗ cred (tallyAt (recvCell c j) () N))
/-- The same once they are. -/
def open3 (c : Dev nD) (j : Fin 3) : sProp 𝕄 :=
  iprop(dutyTok ER (barCell (fr c j)) 0 j ∗ reached ER (recvCell c j) 0 ∗ fresh c j)

def start (c : Dev nD) : sProp 𝕄 :=
  iprop(recs m ∗ (atPos ER (barCell c) 0 ∅ 0 ∗ cred (tallyAt (barCell c) () 3)) ∗ (held3 c 0 ∗ held3 c 1 ∗ held3 c 2))
def entered (c : Dev nD) : sProp 𝕄 :=
  iprop(recs m ∗ (atPos ER (barCell c) 0 ∅ 0 ∗ cred (tallyAt (barCell c) () 3)) ∗ (open3 c 0 ∗ open3 c 1 ∗ open3 c 2))

theorem open_slot (κ : GSem nD τ sig → ℕ) (c : Dev nD) (j : Fin 3) :
    iprop(records m κ ∗ held3 c j ∗ semVal (sendCell c j) 0 ∗ semVal (recvCell c j) 0) ⊢ (|={Set.univ}=> open3 c j : sProp 𝕄) := by
  unfold held3 open3 fresh
  iintro ⟨#HR, ⟨⟨HoS, HoR⟩, Htb, Hts, Htr, Hc⟩, HvS, HvR⟩
  imod (Rounds.cell_open ER (rd m) (g := sendCell c j) (Set.mem_univ (κ (sendCell c j)))) $$ [HoS HvS] with ⟨HaS, #HrS⟩
  · isplitr; · iapply (inv_send m κ c j); iexact HR
    isplitl [HoS] <;> iassumption
  imod (Rounds.cell_open ER (rd m) (g := recvCell c j) (Set.mem_univ (κ (recvCell c j)))) $$ [HoR HvR] with ⟨HaR, #HrR⟩
  · isplitr; · iapply (inv_recv m κ c j); iexact HR
    isplitl [HoR] <;> iassumption
  imodintro
  isplitl [Htb]; · iexact Htb
  isplitr; · iexact HrR
  isplitl [HaS]; · iexact HaS
  isplitl [HaR]; · iexact HaR
  isplitl [Hts]; · iexact Hts
  isplitl [Htr]; · iexact Htr
  isplitl [Hc]; · iexact Hc
  iexact HrS

theorem ownSems_eq (c : Dev nD) : (Pipeline.ownSems0 scSem c : sProp 𝕄)
    = iprop((semVal (sendCell c 0) 0 ∗ semVal (sendCell c 1) 0 ∗ semVal (sendCell c 2) 0) ∗ (semVal (recvCell c 0) 0 ∗ semVal (recvCell c 1) 0 ∗ semVal (recvCell c 2) 0)) := by
  unfold Pipeline.ownSems0
  rw [bigSep_univ_prod, BI.bigSep_fin_two, bigSep_fin3, bigSep_fin3]
  rfl

theorem open_all (c : Dev nD) : iprop(start m c ∗ Pipeline.ownSems0 scSem c) ⊢ (|={Set.univ}=> entered m c : sProp 𝕄) := by
  rw [ownSems_eq]
  unfold start entered recs
  iintro ⟨⟨⟨%κ, #HR⟩, Hb, H0, H1, H2⟩, ⟨S0, S1, S2⟩, R0, R1, R2⟩
  imod (open_slot m κ c 0) $$ [H0 S0 R0] with H0
  · isplitr; · iexact HR
    isplitl [H0]; · iexact H0
    isplitl [S0] <;> iassumption
  imod (open_slot m κ c 1) $$ [H1 S1 R1] with H1
  · isplitr; · iexact HR
    isplitl [H1]; · iexact H1
    isplitl [S1] <;> iassumption
  imod (open_slot m κ c 2) $$ [H2 S2 R2] with H2
  · isplitr; · iexact HR
    isplitl [H2]; · iexact H2
    isplitl [S2] <;> iassumption
  imodintro
  isplitr; · iexists κ; iexact HR
  isplitl [Hb]; · iexact Hb
  isplitl [H0]; · iexact H0
  isplitl [H1] <;> iassumption

/-! ## The scratch buffers, cut and joined -/

theorem setS_disjoint (c : Dev nD) : ∀ i j, i ≠ j → Disjoint (setS c i) (setS c j) := fun i j h => Idealize.ShloMosaic.View.disjoint_slice (rct_disjoint i j h)
theorem setR_disjoint (c : Dev nD) : ∀ i j, i ≠ j → Disjoint (setR c i) (setR c j) := fun i j h => Idealize.ShloMosaic.View.disjoint_slice (rct_disjoint i j h)

theorem cut_all (c : Dev nD) :
    iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ⊢ (iprop(rests c ∗ (sAny c 0 ∗ sAny c 1 ∗ sAny c 2) ∗ (rAny c 0 ∗ rAny c 1 ∗ rAny c 2)) : sProp 𝕄) := by
  unfold rests
  iintro ⟨H1, H2⟩
  ihave H1 := (Ring.fam_split_ex (setS c) (setS_disjoint c) (q := fullShare)) $$ H1
  ihave H2 := (Ring.fam_split_ex (setR c) (setR_disjoint c) (q := fullShare)) $$ H2
  icases H1 with ⟨H1, Hr1⟩
  icases H2 with ⟨H2, Hr2⟩
  isplitl [Hr1 Hr2]; · isplitl [Hr1] <;> iassumption
  isplitl [H1]
  · iapply (Entails.of_eq (bigSep_fin3 (fun j => sAny (F := F) c j))); iexact H1
  · iapply (Entails.of_eq (bigSep_fin3 (fun j => rAny (F := F) c j))); iexact H2

theorem join_all (c : Dev nD) :
    (iprop(rests c ∗ (room c 0 ∗ room c 1 ∗ room c 2)) : sProp 𝕄)
      ⊢ iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)) := by
  unfold rests room
  iintro ⟨⟨⟨%f1, Hr1⟩, ⟨%f2, Hr2⟩⟩, ⟨S0, R0⟩, ⟨S1, R1⟩, ⟨S2, R2⟩⟩
  isplitl [Hr1 S0 S1 S2]
  · iapply (Ring.fam_join (setS c) (setS_disjoint c) (q := fullShare) f1)
    isplitl [S0 S1 S2]
    · iapply (Entails.of_eq (bigSep_fin3 (fun j => sAny (F := F) c j)).symm)
      isplitl [S0]; · iexact S0
      isplitl [S1] <;> iassumption
    iexists f1; iexact Hr1
  · iapply (Ring.fam_join (setR c) (setR_disjoint c) (q := fullShare) f2)
    isplitl [R0 R1 R2]
    · iapply (Entails.of_eq (bigSep_fin3 (fun j => rAny (F := F) c j)).symm)
      isplitl [R0]; · iexact R0
      isplitl [R1] <;> iassumption
    iexists f2; iexact Hr2

/-! ## The region's own facts -/

theorem stage_kind : ∀ (w : Fin 5) (s : Fin (spec0 w).nbuf), kind (.dma ((spec0 w).sem s)) = none := by decide

theorem due_pos (c : Dev nD) (k : ℕ) (g : GSem nD τ sig) (u : Unit) (h : 0 < due c k g u) : (∃ d j, g = recvCell d j) ∨ ∃ d, g = barCell d := by
  match k, h with
  | 0, h => exact O₀_pos h
  | k + 1, h => exact .inl (OR_pos h)

theorem prefHeld_eq (c : Dev nD) : (Pipeline.prefHeld (pcfgs (F := F) 0).pre c (fun _ => fullShare) (adm c 0).1 : sProp 𝕄) = pts c main_v7 (words c) := by
  unfold Pipeline.prefHeld
  exact bigSep_singleton

theorem table_mem : main_v7 ∈ (Finset.univ.filter fun b : Ref sig .tc => ¬ b.isScoped) \ Finset.univ.image (Pipeline.arrRef spec0) := by decide

theorem table_of_rest (c : Dev nD) : (Pipeline.unscopedRest (pcfgs (F := F) 0).spec c (fun b => V2 m c (Proc.devRef .tc b)) : sProp 𝕄) ⊢ pts c main_v7 (words c) := by
  unfold Pipeline.unscopedRest
  rw [← host_table m c]
  exact bigSep_elim (i := main_v7) table_mem

abbrev phinj : Function.Injective (Pipeline.PerCore.cellOf (nD := nD) (τ := τ) (Pipeline.pinD (pcfgs (F := F)) adm)) :=
  Pipeline.PerCore.cellOf_injective _ (fun c p => Pipeline.specSemsDistinct_of_nodup _ (by obtain rfl : p = 0 := Subsingleton.elim _ _; exact semsDistinct 0)) (fun c p p' h => absurd (Subsingleton.elim p p') h)

theorem own_facts : Pipeline.OwnSemFacts spec0 scSem := by decide

abbrev E0 (c : Dev nD) : sProp 𝕄 := iprop(start m c ∗ ∃ W, owes (c : Thread nD τ) (O₀ c) W)
/-- The arrays as the region leaves them, and the entry cell at zero. -/
abbrev Tn (c : Dev nD) : sProp 𝕄 := iprop((dat m c).arrays ((dat m c).arrAt · 4) ∗ semVal (barCell c) 0)

set_option backward.isDefEq.respectTransparency.types false in
def reg : Pipeline.PerCore.RegionSeg (pcfgs (F := F)) adm (dats m) () (defs₀ (F := F)) 𝒱₀ L lv 0 where
  win := winFacts0.to₀
  block_pos := block_pos0
  stage_whole := stage_whole0
  K := Fin 2 × Fin 3
  osem := scSem
  ho := own_facts
  hbody c := (ob m c).loose
  hwaits c := Pipeline.PerCore.cellsWaits_intro _ (dats m) () 0 c fun w s t => mayWait_stage c _ (stage_kind w s) _ (due_pos c _)
  pre c := iprop(StableHlo.held (c : Thread nD τ) (Pipeline.ucRefs τ sig) (V2 m c) ∗ E0 m c)
  post c := iprop(Tn m c ∗ ∃ W, owes (c : Thread nD τ) (0 : CellTallies nD τ sig Unit) W)
  X c := entered m c
  Y c := semVal (barCell c) 0
  Z _ := iprop(emp)
  hentry c := by
    rw [prefHeld_eq]
    iintro ⟨⟨Hh, Hs, ⟨%W, HO⟩⟩, Hos, -⟩
    imod (open_all m c) $$ [Hs Hos] with HX
    · isplitl [Hs] <;> iassumption
    ihave Hb := (Entails.of_eq (Pipeline.unscopedBufs_held (Ix := Unit) (Name := ℕ) (U := UU) (Lvl := ℕ) c (V2 m c)).symm) $$ Hh
    ihave Hb := (Pipeline.PerCore.arrays_of_unscopedBufs (pcfgs (F := F)) adm (dats m) (p := 0) winFacts0 arr_whole0 c (fun _ => ite_self _)
      (fun b => V2 m c (Proc.devRef .tc b)) (fun _ => rfl)) $$ Hb
    icases Hb with ⟨Ha, Hrest⟩
    ihave Ht := (table_of_rest m c) $$ Hrest
    imodintro
    isplitl [Ha]; · iexact Ha
    isplitl [Ht]; · iexact Ht
    isplitl [HO]; · iapply (owes_out m c 0 W); iexact HO
    isplitl [HX]; · iexact HX
    iempintro
  hin c := by
    rw [prefHeld_eq, scopedRest0_eq, show (dats m 0 c).Φ 0 = phi0 m c from rfl]
    unfold entered phi0 base opening open3
    iintro ⟨⟨HR, Hb, ⟨T0, E0, F0⟩, ⟨T1, E1, F1⟩, ⟨T2, E2, F2⟩⟩, Ht, Hk, Hs, Hr⟩
    ihave Hc := (cut_all (F := F) c) $$ [Hs Hr]
    · isplitl [Hs] <;> iassumption
    icases Hc with ⟨Hrest, ⟨S0, S1, S2⟩, R0, R1, R2⟩
    isplitl [HR]; · iexact HR
    isplitl [Ht Hrest]; · isplitl [Ht] <;> iassumption
    isplitl [Hb]; · iexact Hb
    isplitr [Hk]
    · isplitl [T0 E0 F0 S0 R0]
      · isplitl [T0]; · iexact T0
        isplitl [R0]; · iexact R0
        isplitl [E0]; · iexact E0
        isplitl [F0] <;> iassumption
      isplitl [T1 E1 F1 S1 R1]
      · isplitl [T1]; · iexact T1
        isplitl [R1]; · iexact R1
        isplitl [E1]; · iexact E1
        isplitl [F1] <;> iassumption
      isplitl [T2]; · iexact T2
      isplitl [R2]; · iexact R2
      isplitl [E2]; · iexact E2
      isplitl [F2] <;> iassumption
    iexact Hk
  hout c := by
    rw [ownSems_eq, scopedRest0_eq, show (dats m 0 c).Φ (Fin.last _) = phi4 c from rfl]
    unfold phi4 base shut
    iintro ⟨⟨-, Hrest⟩, Hb, Hk, ⟨⟨S0, R0⟩, ⟨S1, R1⟩, ⟨S2, R2⟩⟩, Hroom⟩
    isplitl [Hb]; · iexact Hb
    isplitr [Hk Hrest Hroom]
    · isplitl [S0 S1 S2]
      · isplitl [S0]; · iexact S0
        isplitl [S1] <;> iassumption
      isplitl [R0]; · iexact R0
      isplitl [R1] <;> iassumption
    isplitl [Hk]; · iexact Hk
    iapply (join_all (F := F) c)
    isplitl [Hrest] <;> iassumption
  hexit c := by
    iintro ⟨Ha, HO, Hb, -⟩
    imodintro
    isplitl [Ha Hb]
    · isplitl [Ha]; · iexact Ha
      iexact Hb
    iapply (owes_in m c (Fin.last _)); iexact HO

end Cert.KernelIdeal.Alltoall

end
-- ==== Proof.Run.lean ====
/-
The launch: the ghost state funded and dealt to the devices, and the run of the whole program: arguments unchanged, the result
`outAt`, every counter at zero.
-/
module

public import proofs.«01_k».proof.Proof.Region
public import Idealize.ShloMosaic.Lib.Pipeline.Regions
public import Idealize.ShloMosaic.Lib.Pipeline.ValueKit.Geometry
public import Idealize.ShloMosaic.Lib.Quiescent

@[expose] public section

noncomputable section

namespace Cert.KernelIdeal.Alltoall

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The tokens -/

/-- The cell of a token and its duty: kind 0 a barrier duty, 1 a send duty, 2 a receive duty. -/
def tokSem (kj : Fin 3 × Fin 3) : SemLoc sig := if kj.1 = 0 then .reg barS else if kj.1 = 1 then .dma (sendS kj.2) else .dma (recvS kj.2)
def tokDuty (kj : Fin 3 × Fin 3) : Fin 3 := if kj.1 = 0 then kj.2 else 0
theorem tok_inj : Function.Injective fun kj => (tokSem kj, tokDuty kj) := by decide

def tokEmb : Dev nD × (Fin 3 × Fin 3) ↪ GSem nD τ sig × ℕ × Fin 3 :=
  ⟨fun ck => (((ck.1 : Thread nD τ), tokSem ck.2), 0, tokDuty ck.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2.2) h)))⟩
abbrev tokens : Finset (GSem nD τ sig × ℕ × Fin 3) := Finset.univ.map tokEmb

def barTok (c : Dev nD) (j : Fin 3) : sProp 𝕄 := dutyTok ER (barCell c) 0 j
def sendTok (c : Dev nD) (j : Fin 3) : sProp 𝕄 := dutyTok ER (sendCell c j) 0 0
def recvTok (c : Dev nD) (j : Fin 3) : sProp 𝕄 := dutyTok ER (recvCell c j) 0 0

omit [FloatOps F] in
theorem tokens_split : bigSep tokens (fun x => (dutyTok ER x.1 x.2.1 x.2.2 : sProp 𝕄))
    = bigSep Finset.univ fun c : Dev nD => iprop((barTok c 0 ∗ barTok c 1 ∗ barTok c 2) ∗ (sendTok c 0 ∗ sendTok c 1 ∗ sendTok c 2)
        ∗ (recvTok c 0 ∗ recvTok c 1 ∗ recvTok c 2)) := by
  unfold tokens
  rw [bigSep_map, bigSep_univ_prod]
  exact bigSep_congr fun c _ => by
    rw [bigSep_univ_prod, bigSep_fin3, bigSep_fin3, bigSep_fin3, bigSep_fin3]
    rfl

/-- Each barrier duty and each receive duty handed to the device that pays it. -/
theorem tokens_dealt : bigSep tokens (fun x => (dutyTok ER x.1 x.2.1 x.2.2 : sProp 𝕄))
    = bigSep Finset.univ fun c : Dev nD => iprop((barTok (fr c 0) 0 ∗ barTok (fr c 1) 1 ∗ barTok (fr c 2) 2) ∗ (sendTok c 0 ∗ sendTok c 1 ∗ sendTok c 2)
        ∗ (recvTok (tgt c 0) 0 ∗ recvTok (tgt c 1) 1 ∗ recvTok (tgt c 2) 2)) := by
  have hb (j : Fin 3) : bigSep Finset.univ (fun c : Dev nD => (barTok c j : sProp 𝕄)) = bigSep Finset.univ fun c : Dev nD => barTok (fr c j) j :=
    bigSep_univ_equiv (rot j).symm (fun c : Dev nD => (barTok c j : sProp 𝕄))
  have hr (j : Fin 3) : bigSep Finset.univ (fun c : Dev nD => (recvTok c j : sProp 𝕄)) = bigSep Finset.univ fun c : Dev nD => recvTok (tgt c j) j :=
    bigSep_univ_equiv (rot j) (fun c : Dev nD => (recvTok c j : sProp 𝕄))
  rw [tokens_split]
  simp only [bigSep_sep']
  rw [hb 0, hb 1, hb 2, hr 0, hr 1, hr 2]

/-! ## The credit -/

theorem bar_tally (d c : Dev nD) (j : Fin 3) : (tallyAt (barCell (fr d j)) () 1 : CellTallies nD τ sig Unit) (barCell c) () = if d = tgt c j then 1 else 0 := by
  rw [tallyAt_apply]
  by_cases h : d = tgt c j
  · subst h; rw [fr_tgt, if_pos ⟨rfl, rfl⟩, if_pos rfl]
  · rw [if_neg h, if_neg]
    rintro ⟨h1, -⟩
    have : c = fr d j := congrArg (fun g : GSem nD τ sig => g.1.1) h1
    exact h (by rw [this, tgt_fr])
theorem bar_tally_recv (d c : Dev nD) (i : Fin 3) (k : ℕ) : (tallyAt (recvCell d i) () k : CellTallies nD τ sig Unit) (barCell c) () = 0 := by
  rw [tallyAt_apply, if_neg]; rintro ⟨h1, -⟩; exact recv_ne_bar i (congrArg Prod.snd h1).symm
theorem recv_tally_bar (d c : Dev nD) (i : Fin 3) (k : ℕ) : (tallyAt (barCell d) () k : CellTallies nD τ sig Unit) (recvCell c i) () = 0 := by
  rw [tallyAt_apply, if_neg]; rintro ⟨h1, -⟩; exact recv_ne_bar i (congrArg Prod.snd h1)
theorem recvS_inj : ∀ i j : Fin 3, (SemLoc.dma (recvS i) : SemLoc sig) = .dma (recvS j) → i = j := by decide
theorem recv_tally (d c : Dev nD) (i j : Fin 3) (k : ℕ) : (tallyAt (recvCell (tgt d i) i) () k : CellTallies nD τ sig Unit) (recvCell c j) ()
    = if i = j then (if d = fr c j then k else 0) else 0 := by
  rw [tallyAt_apply]
  by_cases hij : i = j
  · subst hij
    rw [if_pos rfl]
    by_cases h : d = fr c i
    · subst h; rw [tgt_fr, if_pos ⟨rfl, rfl⟩, if_pos rfl]
    · rw [if_neg h, if_neg]
      rintro ⟨h1, -⟩
      have : c = tgt d i := congrArg (fun g : GSem nD τ sig => g.1.1) h1
      exact h (by rw [this, fr_tgt])
  · rw [if_neg hij, if_neg]
    rintro ⟨h1, -⟩
    exact hij (recvS_inj _ _ (congrArg Prod.snd h1).symm)

theorem owed_bar (d c : Dev nD) : O₀ d (barCell c) () = (if d = tgt c 0 then 1 else 0) + (if d = tgt c 1 then 1 else 0) + (if d = tgt c 2 then 1 else 0) := by
  unfold O₀ O2 O1
  rw [OR_0]
  simp only [Pi.add_apply, Finsupp.add_apply, bar_tally, bar_tally_recv]
  show 0 + 0 + 0 + 0 + _ + _ + _ = _
  omega
theorem owed_recv (d c : Dev nD) (j : Fin 3) : O₀ d (recvCell c j) () = if d = fr c j then N else 0 := by
  unfold O₀ O2 O1
  rw [OR_0]
  simp only [Pi.add_apply, Finsupp.add_apply, recv_tally, recv_tally_bar]
  match j with
  | ⟨0, _⟩ => show 0 + 0 + 0 + _ + 0 + 0 + 0 = _; simp only [Nat.zero_add, Nat.add_zero]; rfl
  | ⟨1, _⟩ => show 0 + 0 + _ + 0 + 0 + 0 + 0 = _; simp only [Nat.zero_add, Nat.add_zero]; rfl
  | ⟨2, _⟩ => show 0 + _ + 0 + 0 + 0 + 0 + 0 = _; simp only [Nat.zero_add, Nat.add_zero]; rfl

theorem launch_bar (c : Dev nD) : tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide
theorem launch_recv (c : Dev nD) (j : Fin 3) : tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (fr c j) fun _ => N,
    if_pos (Finset.mem_univ _)]

theorem creds (c : Dev nD) : (Pipeline.launchCred O₀ c : sProp 𝕄)
    ⊢ iprop(cred (tallyAt (barCell c) () 3) ∗ cred (tallyAt (recvCell c 0) () N) ∗ cred (tallyAt (recvCell c 1) () N) ∗ cred (tallyAt (recvCell c 2) () N)) := by
  unfold Pipeline.launchCred
  refine (bigSep_subset (Finset.subset_univ ({.reg barS, .dma (recvS 0), .dma (recvS 1), .dma (recvS 2)} : Finset (SemLoc sig)))).trans ?_
  rw [bigSep_insert (by decide), bigSep_insert (by decide), bigSep_insert (by decide), bigSep_singleton, ← launch_bar, ← launch_recv, ← launch_recv, ← launch_recv]
  exact BI.Entails.refl _

theorem unscoped_eq : ∀ sm : SemLoc sig, sm.isScoped .tc = false → sm = .reg barS := by decide
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The launch -/

def launch : UB := launchOf barCells scCells tokens
def u₀ : UU := (initOf (Pipeline.PerCore.cells (Pipeline.pinD (pcfgs (F := F)) adm) phinj) (Pipeline.PerCore.launchToks (Pipeline.pinD (pcfgs (F := F)) adm) phinj), launch)

/-- All of the launch element on device 0, until it is funded. -/
def G (c : Dev nD) : sProp 𝕄 := if c = 0 then BI.own (ER launch) else iprop(emp)
theorem bigSep_G : bigSep Finset.univ (G (F := F)) = BI.own (ER launch) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) (Pipeline.ucRefs τ sig) (V0 m c) ∗ E0 m c)

/-- What the launch holds for a device beside the exchange's tokens. -/
def given (c : Dev nD) : sProp 𝕄 :=
  iprop(StableHlo.held (c : Thread nD τ) (Pipeline.ucRefs τ sig) (V0 m c)
    ∗ (cred (tallyAt (barCell c) () 3) ∗ cred (tallyAt (recvCell c 0) () N) ∗ cred (tallyAt (recvCell c 1) () N) ∗ cred (tallyAt (recvCell c 2) () N))
    ∗ owes (c : Thread nD τ) (O₀ c) ∅)
def opens (c : Dev nD) : sProp 𝕄 :=
  iprop((openTok ER (sendCell c 0) ∗ openTok ER (sendCell c 1) ∗ openTok ER (sendCell c 2)) ∗ (openTok ER (recvCell c 0) ∗ openTok ER (recvCell c 1) ∗ openTok ER (recvCell c 2)))
def dealt (c : Dev nD) : sProp 𝕄 :=
  iprop((barTok (fr c 0) 0 ∗ barTok (fr c 1) 1 ∗ barTok (fr c 2) 2) ∗ (sendTok c 0 ∗ sendTok c 1 ∗ sendTok c 2)
    ∗ (recvTok (tgt c 0) 0 ∗ recvTok (tgt c 1) 1 ∗ recvTok (tgt c 2) 2))

theorem T₀_intro (κ : GSem nD τ sig → ℕ) (c : Dev nD) :
    iprop(records m κ ∗ ((atPos ER (barCell c) 0 ∅ 0 ∗ opens c ∗ dealt c) ∗ given m c)) ⊢ T₀ m c := by
  unfold T₀ E0 start held3 opens dealt given barTok sendTok recvTok recs
  iintro ⟨#HR, ⟨Hat, ⟨⟨s0, s1, s2⟩, r0, r1, r2⟩, ⟨b0, b1, b2⟩, ⟨t0, t1, t2⟩, u0, u1, u2⟩, Hh, ⟨cb, c0, c1, c2⟩, HO⟩
  isplitl [Hh]; · iexact Hh
  isplitr [HO]
  · isplitr; · iexists κ; iexact HR
    isplitl [Hat cb]; · isplitl [Hat] <;> iassumption
    isplitl [s0 r0 b0 t0 u0 c0]
    · isplitl [s0 r0]; · isplitl [s0] <;> iassumption
      isplitl [b0]; · iexact b0
      isplitl [t0]; · iexact t0
      isplitl [u0] <;> iassumption
    isplitl [s1 r1 b1 t1 u1 c1]
    · isplitl [s1 r1]; · isplitl [s1] <;> iassumption
      isplitl [b1]; · iexact b1
      isplitl [t1]; · iexact t1
      isplitl [u1] <;> iassumption
    isplitl [s2 r2]; · isplitl [s2] <;> iassumption
    isplitl [b2]; · iexact b2
    isplitl [t2]; · iexact t2
    isplitl [u2] <;> iassumption
  · iexists ∅; iexact HO

theorem given_intro (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(given m c ∗ semVal (barCell c) 0 ∗ G c) : sProp 𝕄) := by
  rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c), unscopedSems0_eq]
  unfold given
  iintro ⟨Hh, Hv, HO, Hcr, -, HG⟩
  ihave Hc := (creds (F := F) c) $$ Hcr
  isplitr [Hv HG]
  · isplitl [Hh]; · iexact Hh
    isplitl [Hc]; · iexact Hc
    iexact HO
  isplitl [Hv] <;> iassumption

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hgive : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop(bigSep Finset.univ (given m) ∗ bigSep Finset.univ (fun c : Dev nD => semVal (barCell c) 0) ∗ bigSep Finset.univ G) : sProp 𝕄) := by
    rw [← bigSep_sep', ← bigSep_sep']
    exact bigSep_mono fun c _ => given_intro m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => (opens c : sProp 𝕄)) :=
    Entails.of_eq (by
      rw [bigSep_map, bigSep_univ_prod]
      exact bigSep_congr fun c _ => by rw [bigSep_univ_prod, BI.bigSep_fin_two, bigSep_fin3, bigSep_fin3]; rfl)
  iintro ⟨H, #Hlev⟩
  ihave H := hgive $$ H
  icases H with ⟨HB, Hv, HG⟩
  ihave Hu := (Entails.of_eq (bigSep_G (F := F))) $$ HG
  imod (Rounds.fund_launch ER (rd m) disjoint_cells (fun g _ h => h) tokens) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop((atPos ER (barCell c) 0 ∅ 0 ∗ opens c ∗ dealt c) ∗ given m c)) fun c _ => T₀_intro m κ c)
  isplitr
  · unfold records
    isplitr; · iexact Hinv
    isplitr; · iexact Hr
    iexact Hlev
  rw [bigSep_sep', bigSep_sep', bigSep_sep']
  isplitr [HB]
  · isplitl [Hat]; · iapply hat $$ Hat
    isplitl [Hopen]; · iapply hopen $$ Hopen
    iapply (Entails.of_eq (tokens_dealt (F := F))) $$ Htok
  · iexact HB

/-! ## The run -/

/-- The host stretches change none of the arguments. -/
theorem arg_kept (c : Dev nD) (b : Ref sig .tc) (h1 : b ∉ hostOps0_W) (h2 : b ∉ hostOps0_1_W) :
    V2 m c (Proc.devRef .tc b) = m ((c : Thread nD τ).loc b) := by
  rw [V2_of m c _ h2, V1_of m c _ h1]

theorem whole_at (c : Dev nD) : ((cfgc (F := F) c).win (4 : Fin 5)).WholeAt t0_3 := by
  refine ⟨rfl, fun t h => ?_, fun a => ?_⟩
  · match t, h with
    | ⟨0, _⟩, h => exact absurd ((flush_0 (F := F) c).symm.trans h) (by decide)
    | ⟨1, _⟩, h => exact absurd ((flush_1 (F := F) c).symm.trans h) (by decide)
    | ⟨2, _⟩, h => exact absurd ((flush_2 (F := F) c).symm.trans h) (by decide)
    | ⟨3, _⟩, h => rfl
    | ⟨k + 4, hk⟩, h => exact absurd (show k + 4 < 4 from hk) (by omega)
  · match a with
    | ⟨0, _⟩ => exact ⟨rfl, rfl⟩
    | ⟨1, _⟩ => exact ⟨rfl, rfl⟩

theorem result_at (c : Dev nD) : (dat m c).arrAt (4 : Fin 5) 4 = outAt m c :=
  Dat.arrAt_eq_of_after_last (dat m c) (4 : Fin 5) t0_3 (whole_at c) (outAt m c) (fun _ => rfl) (Memref.isWhole_whole _)

def segs (c : Dev nD) : List (Pipeline.PerCore.Seg (pcfgs (F := F)) adm (dats m) () (defs₀ (F := F)) 𝒱₀ L lv) :=
  [.host (seg0 m 𝒱₀ L lv (fun _ : Fin 2 => E0 m) c), .host (seg1 m 𝒱₀ L lv (fun _ : Fin 2 => E0 m)), .region (reg m)]

def Ends (c : Dev nD) (s : MemSt nD τ sig (Elt F)) : Prop :=
  (∀ w : Fin 5, s.mem ((spec0 w).arr.view.loc (c : Thread nD τ)) = (dat m c).arrAt w 4) ∧ s.sem (barCell c) = 0

set_option backward.isDefEq.respectTransparency.types false in
theorem ends_of (c : Dev nD) (s' : Phys nD τ sig (Elt F)) : iprop(Tn m c ∗ SI s') ⊢ (|={Set.univ}=> iprop(⌜Ends m c s'.mem⌝ ∗ SI s') : sProp 𝕄) := by
  iintro ⟨⟨Ha, Hb⟩, HSI⟩
  icombine HSI Hb gives %hb
  ihave H := (Pipeline.PerCore.arrays_read (pcfgs (F := F)) adm (dats m) (p := 0) arr_whole0 c (fun _ => ite_self _) ((dat m c).arrAt · 4) s') $$ [Ha HSI]
  · isplitl [Ha]; · iexact Ha
    iexact HSI
  icases H with ⟨%ha, HSI⟩
  imodintro
  isplitr
  · ipureintro
    exact ⟨ha, by simpa using hb⟩
  iexact HSI

set_option backward.isDefEq.respectTransparency.types false in
/-- From any memory with zero counters every execution terminates, with the arguments unchanged, the result `outAt` on each device and
    every counter at zero. -/
theorem run_main : θ_run defs (onTc (τ := τ) (main (F := F))) ⟨m, fun _ => 0, ρ⟩
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
        ∧ r.2.mem ((c : Thread nD τ).loc main_v8) = outAt m c) ∧ r.2.sem = fun _ => 0) := by
  refine Pipeline.PerCore.θ_run_regions_kit_sems (pcfgs (F := F)) adm (dats m) () phinj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          StableHlo.seq hostOps0_1,
          Prog.lift (.customCall (Pipeline.entry 0) ()) ] from rfl]
      dsimp (config := { failIfUnchanged := false }) only
      exact .rfl)
    (fun c => by
      simp only [segs, Pipeline.PerCore.Seg.pipes_host, Pipeline.PerCore.Seg.pipes_region, Pipeline.PerCore.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tn m) (hch := fun c => ⟨.rfl, .rfl, .rfl, .rfl⟩) (hinit := init m ρ) (QY := Ends m) (hfin := ends_of m) (hQ := ?_)
  intro s h hs
  refine ⟨fun c => ⟨?_, ?_⟩, sem_eq_zero hs fun c sm hsm => by obtain rfl := unscoped_eq sm hsm; exact (h c).2⟩
  · have hin (w : Fin 5) (hw : ((cfgc (F := F) c).win w).isOut = false) : (dat m c).arrAt w 4 = (dat m c).A w := Dat.arrAt_in (dat m c) w hw 4
    exact ⟨(((h c).1 0).trans (hin 0 rfl)).trans (arg_kept m c main_arg0 (by decide) (by decide)),
      (((h c).1 1).trans (hin 1 rfl)).trans (arg_kept m c main_arg1 (by decide) (by decide)),
      (((h c).1 2).trans (hin 2 rfl)).trans (arg_kept m c main_arg2 (by decide) (by decide)),
      (((h c).1 3).trans (hin 3 rfl)).trans (arg_kept m c main_arg3 (by decide) (by decide))⟩
  · exact ((h c).1 4).trans (result_at m c)

end Cert.KernelIdeal.Alltoall

end
-- ==== Proof.Reference.lean ====
/-
The reference's run: its one call has no grid, every window is a whole array, and the body stores its result once. So the
result array ends at the call's payload of the four argument arrays.
-/
module

public import proofs.«01_k».proof.Proof.Gen.ReferenceIdeal.Value
public import Idealize.ShloMosaic.Lib.Pipeline.ValueKit

@[expose] public section

noncomputable section

namespace Cert.ReferenceIdeal.Whole

open Cert.ReferenceIdeal Cert.ReferenceIdeal.Gen Cert.ReferenceIdeal.Value
open Idealize.ShloMosaic Idealize.ShloMosaic.TcCoe Idealize.SL.Sem
open Idealize.ShloMosaic.Pipeline

variable {F : FTy → Type} [FloatOps F]

/-- The one place of a one-word array. -/
def at0 : S1.Idx := Shape.Idx.first (by decide)

theorem origin2 : (![0, 0] : Fin 2 → Nat) = fun _ => 0 := funext fun a => match a with | ⟨0, _⟩ => rfl | ⟨1, _⟩ => rfl

/-- The body's one store, as a function of what its windows hold. -/
theorem stored (c : Dev nD) (a0 : Memref sig .tc .vmem S4096x4096 .fp8e4m3) (h0 : a0.IsWhole) (a1 : Memref sig .tc .vmem S4096x2048 .fp8e4m3) (h1 : a1.IsWhole)
    (a2 : Memref sig .tc .smem S1 .f32) (h2 : a2.IsWhole) (a3 : Memref sig .tc .smem S1 .f32) (h3 : a3.IsWhole)
    (a4 : Memref sig .tc .vmem S4096x2048 .bf16) (h4 : a4.IsWhole)
    (x : Vec F S4096x4096 .fp8e4m3) (w : Vec F S4096x2048 .fp8e4m3) (s : Vec F S1 .f32) (q : Vec F S1 .f32) :
    out0_A_4 c a0 h0 a1 h1 a2 h2 a3 h3 a4 h4 x w s q = k0_pay1 x w (s at0) (q at0) := by
  unfold out0_A_4
  rw [View.read_writes_junk_eq_canon]
  unfold kernelRun0_A
  dsimp only
  sl_unfold_words
  rw [View.canon_unit_zero origin2]
  simp only [View.readAt_eq_ld, h0.read_unread, h1.read_unread, h2.read_unread, h3.read_unread]
  rw [View.ld_unit_zero origin2, View.ld_unit_zero origin2]
  exact congrArg₂ (k0_pay1 x w) (congrArg s (funext fun a => by match a with | ⟨0, _⟩ => rfl))
    (congrArg q (funext fun a => by match a with | ⟨0, _⟩ => rfl))

variable (m : (ℓ : Loc nD τ sig) → Buf (Elt F) ℓ) (ρ : Dev nD → PrngReg)

/-! Every window's block index is zero, so its block is its array. -/

theorem zero0 : ∀ t : Fin cfg0.N, ∀ a : Fin 2, win0_0.index t a = 0 := (by decide +kernel : ∀ t : Fin grid0.N, _)
theorem zero1 : ∀ t : Fin cfg0.N, ∀ a : Fin 2, win0_1.index t a = 0 := (by decide +kernel : ∀ t : Fin grid0.N, _)
theorem zero2 : ∀ t : Fin cfg0.N, ∀ a : Fin 1, win0_2.index t a = 0 := (by decide +kernel : ∀ t : Fin grid0.N, _)
theorem zero3 : ∀ t : Fin cfg0.N, ∀ a : Fin 1, win0_3.index t a = 0 := (by decide +kernel : ∀ t : Fin grid0.N, _)

theorem blk0 (c : Dev nD) (t : Fin cfg0.N) : (iblk m c 0 t : Vec F S4096x4096 .fp8e4m3) = m ((c : Thread nD τ).loc main_arg0) :=
  funext fun j => congrArg (m ((c : Thread nD τ).loc main_arg0)) (funext fun a => Fin.ext (Window.rect_emb_val_of_index_zero (cfg0.win 0) t a (zero0 t a) j))
theorem blk1 (c : Dev nD) (t : Fin cfg0.N) : (iblk m c 1 t : Vec F S4096x2048 .fp8e4m3) = m ((c : Thread nD τ).loc main_arg1) :=
  funext fun j => congrArg (m ((c : Thread nD τ).loc main_arg1)) (funext fun a => Fin.ext (Window.rect_emb_val_of_index_zero (cfg0.win 1) t a (zero1 t a) j))
theorem blk2 (c : Dev nD) (t : Fin cfg0.N) : (iblk m c 2 t : Vec F S1 .f32) = m ((c : Thread nD τ).loc main_arg2) :=
  funext fun j => congrArg (m ((c : Thread nD τ).loc main_arg2)) (funext fun a => Fin.ext (Window.rect_emb_val_of_index_zero (cfg0.win 2) t a (zero2 t a) j))
theorem blk3 (c : Dev nD) (t : Fin cfg0.N) : (iblk m c 3 t : Vec F S1 .f32) = m ((c : Thread nD τ).loc main_arg3) :=
  funext fun j => congrArg (m ((c : Thread nD τ).loc main_arg3)) (funext fun a => Fin.ext (Window.rect_emb_val_of_index_zero (cfg0.win 3) t a (zero3 t a) j))

/-- The result array as one function of the argument arrays. -/
def result (c : Dev nD) : Vec F S4096x2048 .bf16 :=
  k0_pay1 (m ((c : Thread nD τ).loc main_arg0) : Vec F S4096x4096 .fp8e4m3) (m ((c : Thread nD τ).loc main_arg1) : Vec F S4096x2048 .fp8e4m3)
    ((m ((c : Thread nD τ).loc main_arg2) : Vec F S1 .f32) at0) ((m ((c : Thread nD τ).loc main_arg3) : Vec F S1 .f32) at0)

theorem outs (c : Dev nD) (t : Fin cfg0.N) : outsAt0 m c t = result m c := by
  unfold outsAt0
  rw [stored, blk0, blk1, blk2, blk3]
  rfl

theorem final (c : Dev nD) : (dats m 0 c).arrAt 4 cfg0.N = result m c :=
  (dats m 0 c).arrAt_eq_of_after_last 4 ⟨0, by decide⟩ (by decide +kernel) _ fun j => by
    rw [after0_4, outs]
    rfl

/-- The reference runs, and its result array ends at `result`. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ReferenceIdeal.Whole

end
-- ==== Proof.Scalars.lean ====
/-
Numbers. A value rounded to an integer and clamped to [-127, 127] is such an integer, so the eight-bit word that carries it
gives it back; and multiplying by the reciprocal of a step, then by the step, is dividing by the step, then multiplying.
-/
module

public import Idealize.ShloMosaic.PureOps.Ideal.Laws

@[expose] public section

noncomputable section

namespace Cert.KernelIdeal.Scalars

open Idealize.ShloMosaic

/-- Rounded to an integer, then clamped to [-127, 127]. -/
def code (x : EReal) : EReal := min ((127 : ℝ) : EReal) (max ((-127 : ℝ) : EReal) (Ideal.liftRound Ideal.roundHalfEven x))

/-- It is an integer of that range. -/
theorem code_int (x : EReal) : ∃ k : ℤ, -127 ≤ k ∧ k ≤ 127 ∧ code x = ((k : ℝ) : EReal) := by
  induction x with
  | bot => exact ⟨-127, by norm_num, by norm_num, by unfold code; rw [Ideal.liftRound_bot, max_eq_left bot_le, min_eq_right (by exact_mod_cast (by norm_num : (-127 : ℝ) ≤ 127))]; norm_num⟩
  | top => exact ⟨127, by norm_num, by norm_num, by unfold code; rw [Ideal.liftRound_top, max_eq_right le_top, min_eq_left le_top]; norm_num⟩
  | coe r =>
    refine ⟨min 127 (max (-127) (Ideal.roundHalfEven r)), by omega, by omega, ?_⟩
    unfold code
    rw [Ideal.liftRound_coe]
    push_cast
    rfl

/-- The eight-bit word of an integer of the range, read back. -/
theorem word_int (k : ℤ) (h1 : -127 ≤ k) (h2 : k ≤ 127) : (Ideal.fptosi 8 ((k : ℝ) : EReal)).toInt = k := by
  have e : Ideal.fptosi 8 ((k : ℝ) : EReal) = BitVec.ofInt 8 k := by
    show BitVec.ofInt 8 (max (-(2 ^ (8 - 1) : Nat)) (min ((2 ^ (8 - 1) : Nat) - 1) (if 0 ≤ (k : ℝ) then ⌊(k : ℝ)⌋ else ⌈(k : ℝ)⌉))) = _
    rw [Int.floor_intCast, Int.ceil_intCast, ite_self]
    congr 1
    norm_num
    omega
  rw [e, BitVec.toInt_ofInt]
  rw [Int.bmod_def]
  omega

/-- What the word of a code carries is the code. -/
theorem carried (x : EReal) : (((Ideal.fptosi 8 (code x)).toInt : ℝ) : EReal) = code x := by
  obtain ⟨k, h1, h2, e⟩ := code_int x
  rw [e, word_int k h1 h2]

/-- Coded by the reciprocal of the step, decoded by the step: the reference's quotient and product. -/
theorem coded_eq (y s : EReal) : code (y * Ideal.div 1 s) * s = code (Ideal.div y s) * s := by
  by_cases h : s = 0
  · rw [h, mul_zero, mul_zero]
  · congr 2
    unfold Ideal.div
    rw [if_neg h, if_neg h, one_mul]

theorem bits_127 : Ideal.ofBits .f32 0x42FE0000#32 = ((127 : ℝ) : EReal) := by
  simp [Ideal.ofBits, Ideal.ieee, -EReal.coe_mul]; norm_num
theorem bits_neg127 : Ideal.ofBits .f32 0xC2FE0000#32 = ((-127 : ℝ) : EReal) := by
  simp [Ideal.ofBits, Ideal.ieee, -EReal.coe_mul]; norm_num
theorem bits_1 : Ideal.ofBits .f32 0x3F800000#32 = 1 := by
  simp [Ideal.ofBits, Ideal.ieee, -EReal.coe_mul]; norm_num
theorem bits_0 : Ideal.ofBits .f32 0x00000000#32 = 0 := by
  simp [Ideal.ofBits, Ideal.ieee]

end Cert.KernelIdeal.Scalars

end
-- ==== Proof.Values.lean ====
/-
Values. Entry by entry, what device `c` ends with is column block `c` of what the reference computes: the products agree
as sums, and the codes that travelled decode to the reference's own rounded blocks.
-/
module

public import proofs.«01_k».proof.Proof.Run
public import proofs.«01_k».proof.Proof.Scalars
public import proofs.«01_k».proof.Proof.Reference
public import Idealize.ShloMosaic.Lib.MatmulPlain
public import Idealize.ShloMosaic.Lib.ValueLayout
public import Idealize.ShloMosaic.Lib.Layout

@[expose] public section

noncomputable section

namespace Cert.KernelIdeal.Alltoall

open Cert.KernelIdeal Cert.KernelIdeal.Gen Cert.KernelIdeal.Scalars
open Idealize.ShloMosaic Idealize.ShloMosaic.TcCoe
open scoped BigOperators

variable (m : (ℓ : Loc nD τ sig) → Buf (Elt Ideal) ℓ)

/-! ## The kernel's payloads at an entry -/

/-- The step of the code: the two scales' product and the constant. -/
def stepOf (s q : EReal) : EReal := s * q * Ideal.ofBits .f32 0x403162C6#32

theorem pay3_id (v : Vec Ideal S1024x4096 .fp8e4m3) : k0_pay3 v = v := by
  show shapeCast S1024x4096 (shapeCast S1024x4096 v shapeCasts_S1024x4096_S1024x4096) shapeCasts_S1024x4096_S1024x4096 = v
  rw [shapeCast_self, shapeCast_self]

theorem pay4_at (s q : EReal) (x : Vec Ideal S1024x4096 .fp8e4m3) (w : Vec Ideal S4096x512 .fp8e4m3) (a : Fin 1024) (b : Fin 512) :
    (k0_pay4 (F := Ideal) s q x w (ValueIdx.ix2 a b) : EReal)
      = (∑ k : Fin 4096, (x (ValueIdx.ix2 a k) : EReal) * (w (ValueIdx.ix2 k b) : EReal)) * (s * q) := by
  dsimp only [k0_pay4]
  rw [shapeCast_self]
  show (FloatOps.matmul (F := Ideal) (φ₁ := .fp8e4m3) (φ₂ := .fp8e4m3) (DotDims.plain 1024 4096 512) none x w (constant S1024x512 .f32 0x00000000#32) (ValueIdx.ix2 a b) : EReal) * (s * q) = _
  rw [Ideal.matmul_plain_apply]
  congr 1
  show Ideal.ofBits .f32 0x00000000#32 + _ = _
  rw [bits_0, zero_add]

theorem pay5_at (s q : EReal) (x : Vec Ideal S1024x4096 .fp8e4m3) (w : Vec Ideal S4096x512 .fp8e4m3) (a : Fin 1024) (b : Fin 512) :
    k0_pay5 (F := Ideal) s q x w (ValueIdx.ix3 (0 : Fin 1) a b)
      = Ideal.fptosi 8 (code ((k0_pay4 (F := Ideal) s q x w (ValueIdx.ix2 a b) : EReal) * Ideal.div 1 (stepOf s q))) := by
  dsimp only [k0_pay5]
  rw [ValueIdx.shapeCast_ab_1ab_apply]
  show Ideal.fptosi 8 (min (Ideal.ofBits .f32 0x42FE0000#32) (max (Ideal.ofBits .f32 0xC2FE0000#32)
    (Ideal.liftRound Ideal.roundHalfEven ((k0_pay4 (F := Ideal) s q x w (ValueIdx.ix2 a b) : EReal) * Ideal.div (Ideal.ofBits .f32 0x3F800000#32) (stepOf s q))))) = _
  rw [bits_127, bits_neg127, bits_1]
  rfl

theorem pay8_at (v6 : EReal) (v : Vec Ideal S1x1024x512 .i8) (a : Fin 1024) (b : Fin 512) :
    (k0_pay8 (F := Ideal) v6 v (ValueIdx.ix2 a b) : EReal) = (((v (ValueIdx.ix3 (0 : Fin 1) a b) : BitVec 8).toInt : ℝ) : EReal) * v6 := by
  unfold k0_pay8
  show (((shapeCast S1024x512 v shapeCasts_S1x1024x512_S1024x512 (ValueIdx.ix2 a b) : BitVec 8).toInt : ℝ) : EReal) * v6 = _
  rw [ValueIdx.shapeCast_1ab_ab_apply]

/-- A block coded at one device and decoded with the same step. -/
theorem decoded_at (s q : EReal) (x : Vec Ideal S1024x4096 .fp8e4m3) (w : Vec Ideal S4096x512 .fp8e4m3) (a : Fin 1024) (b : Fin 512) :
    (k0_pay8 (F := Ideal) (k0_pay2 (F := Ideal) s q) (k0_pay5 (F := Ideal) s q x w) (ValueIdx.ix2 a b) : EReal)
      = code (Ideal.div (k0_pay4 (F := Ideal) s q x w (ValueIdx.ix2 a b) : EReal) (stepOf s q)) * stepOf s q := by
  rw [pay8_at, pay5_at, carried]
  exact coded_eq _ _

/-! ## The reference's payload at an entry -/

theorem shiftedWord (n k : ℕ) (h : n < 2 ^ 31) : (BitVec.ofNat 32 n).sshiftRight k = BitVec.ofNat 32 (n / 2 ^ k) := by
  have hn : (BitVec.ofNat 32 n).toNat = n := by rw [BitVec.toNat_ofNat]; exact Nat.mod_eq_of_lt (by omega)
  rw [BitVec.sshiftRight_eq_of_msb_false (by rw [BitVec.msb_eq_false_iff_two_mul_lt, hn]; omega)]
  apply BitVec.eq_of_toNat_eq
  have hd : n / 2 ^ k ≤ n := Nat.div_le_self _ _
  rw [BitVec.toNat_ushiftRight, hn, BitVec.toNat_ofNat, Nat.shiftRight_eq_div_pow, Nat.mod_eq_of_lt (by omega)]

theorem sameBlock (R : Fin 4096) (C : Fin 2048) :
    IntOp.cmpi .eq (IntOp.shrsi .vector (BitVec.ofNat 32 R.val) 10#32) (IntOp.shrsi .vector (BitVec.ofNat 32 C.val) 9#32) = 1#1
      ↔ R.val / 1024 = C.val / 512 := by
  have hR := R.isLt
  have hC := C.isLt
  have e1 : IntOp.shrsi .vector (BitVec.ofNat 32 R.val) 10#32 = BitVec.ofNat 32 (R.val / 1024) := shiftedWord R.val 10 (by omega)
  have e2 : IntOp.shrsi .vector (BitVec.ofNat 32 C.val) 9#32 = BitVec.ofNat 32 (C.val / 512) := shiftedWord C.val 9 (by omega)
  rw [e1, e2]
  show BitVec.ofBool (BitVec.ofNat 32 (R.val / 1024) == BitVec.ofNat 32 (C.val / 512)) = 1#1 ↔ _
  constructor
  · intro h
    have hb : (BitVec.ofNat 32 (R.val / 1024) == BitVec.ofNat 32 (C.val / 512)) = true := by
      by_contra hc
      rw [Bool.not_eq_true] at hc
      rw [hc] at h
      exact absurd h (by decide)
    have ht := congrArg BitVec.toNat (eq_of_beq hb)
    rw [BitVec.toNat_ofNat, BitVec.toNat_ofNat, Nat.mod_eq_of_lt (by omega), Nat.mod_eq_of_lt (by omega)] at ht
    exact ht
  · intro h
    rw [h, beq_self_eq_true]
    rfl

theorem refPay_at (s q : EReal) (x : Vec Ideal Cert.ReferenceIdeal.S4096x4096 .fp8e4m3) (w : Vec Ideal Cert.ReferenceIdeal.S4096x2048 .fp8e4m3)
    (R : Fin 4096) (C : Fin 2048) :
    (Cert.ReferenceIdeal.Gen.k0_pay1 (F := Ideal) x w s q (ValueIdx.ix2 R C) : EReal)
      = if R.val / 1024 = C.val / 512 then (∑ k : Fin 4096, (x (ValueIdx.ix2 R k) : EReal) * (w (ValueIdx.ix2 k C) : EReal)) * (s * q)
        else code (Ideal.div ((∑ k : Fin 4096, (x (ValueIdx.ix2 R k) : EReal) * (w (ValueIdx.ix2 k C) : EReal)) * (s * q)) (stepOf s q)) * stepOf s q := by
  have hy : (FloatOps.matmul (F := Ideal) (φ₁ := .fp8e4m3) (φ₂ := .fp8e4m3) (DotDims.plain 4096 4096 2048) none x w (constant (F := Ideal) Cert.ReferenceIdeal.S4096x2048 .f32 0x00000000#32) (ValueIdx.ix2 R C) : EReal)
      = ∑ k : Fin 4096, (x (ValueIdx.ix2 R k) : EReal) * (w (ValueIdx.ix2 k C) : EReal) := by
    rw [Ideal.matmul_plain_apply]
    show Ideal.ofBits .f32 0x00000000#32 + _ = _
    rw [bits_0, zero_add]
  rw [← hy]
  show Scalar.select (IntOp.cmpi .eq (IntOp.shrsi .vector (BitVec.ofNat 32 (0 * 4096 + R.val)) 10#32) (IntOp.shrsi .vector (BitVec.ofNat 32 (0 * 2048 + C.val)) 9#32))
    ((FloatOps.matmul (F := Ideal) (φ₁ := .fp8e4m3) (φ₂ := .fp8e4m3) (DotDims.plain 4096 4096 2048) none x w (constant (F := Ideal) Cert.ReferenceIdeal.S4096x2048 .f32 0x00000000#32) (ValueIdx.ix2 R C) : EReal) * (s * q))
    (min (Ideal.ofBits .f32 0x42FE0000#32) (max (Ideal.ofBits .f32 0xC2FE0000#32) (Ideal.liftRound Ideal.roundHalfEven
      (Ideal.div ((FloatOps.matmul (F := Ideal) (φ₁ := .fp8e4m3) (φ₂ := .fp8e4m3) (DotDims.plain 4096 4096 2048) none x w (constant (F := Ideal) Cert.ReferenceIdeal.S4096x2048 .f32 0x00000000#32) (ValueIdx.ix2 R C) : EReal) * (s * q)) (stepOf s q))))
      * stepOf s q) = _
  rw [bits_127, bits_neg127, Nat.zero_mul, Nat.zero_add, Nat.zero_add]
  by_cases h : R.val / 1024 = C.val / 512
  · rw [if_pos h]
    exact if_pos ((sameBlock R C).2 h)
  · rw [if_neg h]
    exact if_neg fun e => h ((sameBlock R C).1 e)

/-! ## The two results -/

theorem arg0_at (c : Dev nD) : xv m c = m ((c : Thread nD τ).loc main_arg0) := arg_kept m c main_arg0 (by decide) (by decide)

/-- Device `c`'s result is column block `c` of the reference's. -/
theorem outAt_block (x : Vec Ideal Cert.ReferenceIdeal.S4096x4096 .fp8e4m3) (w : Vec Ideal Cert.ReferenceIdeal.S4096x2048 .fp8e4m3) (s q : Vec Ideal S1 .f32)
    (h0 : ∀ c : Dev nD, m ((c : Thread nD τ).loc main_arg0) = Layout.block ⟨2, ![1024, 4096]⟩ ⟨2, ![4096, 4096]⟩ 0 4 c x)
    (h1 : ∀ c : Dev nD, m ((c : Thread nD τ).loc main_arg1) = w)
    (h2 : ∀ c : Dev nD, m ((c : Thread nD τ).loc main_arg2) = s)
    (h3 : ∀ c : Dev nD, m ((c : Thread nD τ).loc main_arg3) = q) (c : Dev nD) :
    outAt m c = Layout.block ⟨2, ![4096, 512]⟩ ⟨2, ![4096, 2048]⟩ 1 4 c
      (Cert.ReferenceIdeal.Gen.k0_pay1 (F := Ideal) x w (s (Shape.Idx.first (by decide))) (q (Shape.Idx.first (by decide)))) := by
  have es : ∀ d : Dev nD, sx m d = s (Shape.Idx.first (by decide)) := fun d =>
    congrFun ((arg_kept m d main_arg2 (by decide) (by decide)).trans (h2 d)) _
  have eq' : ∀ d : Dev nD, sw m d = q (Shape.Idx.first (by decide)) := fun d =>
    congrFun ((arg_kept m d main_arg3 (by decide) (by decide)).trans (h3 d)) _
  generalize s (Shape.Idx.first (by decide)) = s0 at es ⊢
  generalize q (Shape.Idx.first (by decide)) = q0 at eq' ⊢
  funext y
  obtain ⟨R, b, rfl⟩ : ∃ (R : Fin 4096) (b : Fin 512), y = ValueIdx.ix2 R b := ⟨y 0, y 1, ValueIdx.eq_ix2 y⟩
  have hR := R.isLt
  have hb := b.isLt
  have hc : c.val < 4 := c.isLt
  have hRd : R.val / 1024 < 4 := by omega
  have hCol : c.val * 512 + b.val < 2048 := by omega
  let C : Fin 2048 := ⟨c.val * 512 + b.val, hCol⟩
  let p : Dev nD := ⟨R.val / 1024, hRd⟩
  let a : Fin 1024 := ⟨R.val % 1024, Nat.mod_lt _ (by decide)⟩
  have hlow : lowIdx (ValueIdx.ix2 R b) = ValueIdx.ix2 a b := by
    funext i; match i with | ⟨0, _⟩ => rfl | ⟨1, _⟩ => rfl
  have hp : rowDev (ValueIdx.ix2 R b) = p := rfl
  have hx : ∀ k : Fin 4096, (xv m p (ValueIdx.ix2 a k) : EReal) = x (ValueIdx.ix2 R k) := fun k => by
    rw [arg0_at, h0]
    refine congrArg x (funext fun i => Fin.ext ?_)
    match i with
    | ⟨0, _⟩ =>
      show p.val * 1024 + a.val = R.val
      show R.val / 1024 * 1024 + R.val % 1024 = R.val
      omega
    | ⟨1, _⟩ => rfl
  have hw : ∀ k : Fin 4096, (wv m p c (ValueIdx.ix2 k b) : EReal) = w (ValueIdx.ix2 k C) := fun k => by
    have e := (arg_kept m p main_arg1 (by decide) (by decide)).trans (h1 p)
    refine (congrFun e _).trans (congrArg w (funext fun i => Fin.ext ?_))
    match i with
    | ⟨0, _⟩ => rfl
    | ⟨1, _⟩ => rfl
  have hprod : (k0_pay4 (F := Ideal) s0 q0 (x8 m p) (wv m p c) (ValueIdx.ix2 a b) : EReal)
      = (∑ k : Fin 4096, (x (ValueIdx.ix2 R k) : EReal) * (w (ValueIdx.ix2 k C) : EReal)) * (s0 * q0) := by
    rw [pay4_at]
    unfold x8
    rw [pay3_id]
    simp only [hx, hw]
  have hC : C.val / 512 = c.val := by show (c.val * 512 + b.val) / 512 = c.val; omega
  have hrhs : (Layout.block ⟨2, ![4096, 512]⟩ ⟨2, ![4096, 2048]⟩ 1 4 c
      (Cert.ReferenceIdeal.Gen.k0_pay1 (F := Ideal) x w s0 q0) (by decide) (ValueIdx.ix2 R b) : EReal)
      = Cert.ReferenceIdeal.Gen.k0_pay1 (F := Ideal) x w s0 q0 (ValueIdx.ix2 R C) := by
    refine congrArg (Cert.ReferenceIdeal.Gen.k0_pay1 (F := Ideal) x w s0 q0) (funext fun i => Fin.ext ?_)
    match i with
    | ⟨0, _⟩ => rfl
    | ⟨1, _⟩ => rfl
  refine Eq.trans ?_ hrhs.symm
  rw [refPay_at, ← hprod, hC]
  show (if rowDev (ValueIdx.ix2 R b) = c then k0_pay7 (F := Ideal) (prod m c c) (lowIdx (ValueIdx.ix2 R b))
    else k0_pay7 (F := Ideal) (decoded m c (rowDev (ValueIdx.ix2 R b))) (lowIdx (ValueIdx.ix2 R b))) = _
  rw [hlow, hp]
  by_cases hpc : p = c
  · have hv : R.val / 1024 = c.val := congrArg Fin.val hpc
    rw [if_pos hpc, if_pos hv]
    show (k0_pay4 (F := Ideal) (sx m c) (sw m c) (x8 m c) (wv m c c) (ValueIdx.ix2 a b) : EReal) = _
    rw [es, eq', hpc]
  · have hv : ¬ R.val / 1024 = c.val := fun h => hpc (Fin.ext h)
    rw [if_neg hpc, if_neg hv]
    show (k0_pay8 (F := Ideal) (k0_pay2 (F := Ideal) (sx m c) (sw m c)) (k0_pay5 (F := Ideal) (sx m p) (sw m p) (x8 m p) (wv m p c)) (ValueIdx.ix2 a b) : EReal) = _
    rw [es, eq', es, eq', decoded_at]

end Cert.KernelIdeal.Alltoall

end
-- ==== Proof.lean ====
/-
The claims, from the two runs of the kernel (word level and ideal), the reference's run and the comparison of values.
-/
module

public import proofs.«01_k».proof.Defs
public import proofs.«01_k».proof.Proof.Run
public import proofs.«01_k».proof.Proof.Word.Run
public import proofs.«01_k».proof.Proof.Reference
public import proofs.«01_k».proof.Proof.Values
public import proofs.«01_k».proof.Proof.Gen.Kernel.Skeleton
public import proofs.«01_k».proof.Proof.Gen.KernelIdeal.Skeleton

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m g _ => (θ_run _ _ _).mono (fun r h => ⟨fun c => (h.1 c).1, h.2⟩) (Cert.Kernel.Alltoall.run_main (F := Bits) m g),
    fun m g _ => (θ_run _ _ _).mono (fun r h => ⟨fun c => (h.1 c).1, h.2⟩) (Cert.KernelIdeal.Alltoall.run_main (F := Ideal) m g),
    fun m g _ => Cert.ReferenceIdeal.Gen.frame m g,
    trivial,
    fun m g m' g' _ h => ⟨Cert.ReferenceIdeal.Whole.result m' 0,
      (θ_run _ _ _).mono (fun r hr c => ⟨((hr.1 c).2).trans
          (Cert.KernelIdeal.Alltoall.outAt_block m _ _ _ _ (fun c => (h c).1) (fun c => (h c).2.1) (fun c => (h c).2.2.1) (fun c => (h c).2.2.2) c),
          (hr.1 c).1⟩) (Cert.KernelIdeal.Alltoall.run_main (F := Ideal) m g),
      (θ_run _ _ _).mono (fun r hr => hr 0) (Cert.ReferenceIdeal.Whole.run m' g')⟩⟩

end Cert.Proof

end
